-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x384x144x144 : Shape := ⟨4, ![2, 384, 144, 144]⟩
abbrev S144x144 : Shape := ⟨2, ![144, 144]⟩
abbrev S144 : Shape := ⟨1, ![144]⟩
abbrev S48x48x3 : Shape := ⟨3, ![48, 48, 3]⟩
abbrev S48 : Shape := ⟨1, ![48]⟩
abbrev S_ : Shape := ⟨0, ![]⟩
abbrev S96x144 : Shape := ⟨2, ![96, 144]⟩
abbrev S96 : Shape := ⟨1, ![96]⟩

class Facts : Prop where
  bcast_S_S2x384x144x144 : S_.BroadcastsInDim S2x384x144x144 (![] : Fin 0 → Fin S2x384x144x144.rank)
  reducesTo_S2x384x144x144_S_d0_1_2_3 : S2x384x144x144.ReducesTo [0, 1, 2, 3] S_
  h_S_ : 0 < S_.numel
  slices_S144x144_S96x144_0_0 : S144x144.Slices ![0, 0] S96x144
  bcast_S_S96x144 : S_.BroadcastsInDim S96x144 (![] : Fin 0 → Fin S96x144.rank)
  reducesTo_S96x144_S_d0_1 : S96x144.ReducesTo [0, 1] S_
  slices_S144_S96_0 : S144.Slices ![0] S96
  bcast_S_S96 : S_.BroadcastsInDim S96 (![] : Fin 0 → Fin S96.rank)
  reducesTo_S96_S_d0 : S96.ReducesTo [0] S_

variable [Facts]

def fn {F : FTy → Type} [FloatOps F] (main_arg0 : FVec F S2x384x144x144 .f32) (main_arg1 : FVec F S144x144 .f32) (main_arg2 : FVec F S144 .f32) (main_arg3 : FVec F S48x48x3 .f32) (main_arg4 : FVec F S48 .f32) (main_arg5 : FVec F S48x48x3 .f32) (main_arg6 : FVec F S48 .f32) : IVec S_ 1 :=
  let main_v0 : FVec F S2x384x144x144 .f32 := Host.absf main_arg0
  let main_cst : FVec F S_ .f32 := constant S_ .f32 0x7F800000#32
  let main_v1 : FVec F S2x384x144x144 .f32 := broadcastInDim S2x384x144x144 ![] bcast_S_S2x384x144x144 main_cst
  let main_v2 : IVec S2x384x144x144 1 := cmpf .olt main_v0 main_v1
  let main_c : IVec S_ 1 := constantI S_ 1 1#1
  let main_v3 : IVec S_ 1 := (fun x v => Host.reduce IntOp.andi x v reducesTo_S2x384x144x144_S_d0_1_2_3 h_S_) main_v2 main_c
  let main_v4 : FVec F S96x144 .f32 := (extractStridedSlice S96x144 ![0, 0] · slices_S144x144_S96x144_0_0) main_arg1
  let main_v5 : FVec F S96x144 .f32 := Host.absf main_v4
  let main_cst_0 : FVec F S_ .f32 := constant S_ .f32 0x7F800000#32
  let main_v6 : FVec F S96x144 .f32 := broadcastInDim S96x144 ![] bcast_S_S96x144 main_cst_0
  let main_v7 : IVec S96x144 1 := cmpf .olt main_v5 main_v6
  let main_c_1 : IVec S_ 1 := constantI S_ 1 1#1
  let main_v8 : IVec S_ 1 := (fun x v => Host.reduce IntOp.andi x v reducesTo_S96x144_S_d0_1 h_S_) main_v7 main_c_1
  let main_v9 : IVec S_ 1 := andi main_v3 main_v8
  let main_v10 : FVec F S96 .f32 := (extractStridedSlice S96 ![0] · slices_S144_S96_0) main_arg2
  let main_v11 : FVec F S96 .f32 := Host.absf main_v10
  let main_cst_2 : FVec F S_ .f32 := constant S_ .f32 0x7F800000#32
  let main_v12 : FVec F S96 .f32 := broadcastInDim S96 ![] bcast_S_S96 main_cst_2
  let main_v13 : IVec S96 1 := cmpf .olt main_v11 main_v12
  let main_c_3 : IVec S_ 1 := constantI S_ 1 1#1
  let main_v14 : IVec S_ 1 := (fun x v => Host.reduce IntOp.andi x v reducesTo_S96_S_d0 h_S_) main_v13 main_c_3
  let main_v15 : IVec S_ 1 := andi main_v9 main_v14
  main_v15
-- ==== Kernel.lean ====
abbrev S2x384x144x144 : Shape := ⟨4, ![2, 384, 144, 144]⟩
abbrev S144x144 : Shape := ⟨2, ![144, 144]⟩
abbrev S144 : Shape := ⟨1, ![144]⟩
abbrev S48x48x3 : Shape := ⟨3, ![48, 48, 3]⟩
abbrev S48 : Shape := ⟨1, ![48]⟩
abbrev S2x384x12x12x12x12 : Shape := ⟨6, ![2, 384, 12, 12, 12, 12]⟩
abbrev S2x55296x144 : Shape := ⟨3, ![2, 55296, 144]⟩
abbrev S2x144x384x144 : Shape := ⟨4, ![2, 144, 384, 144]⟩
abbrev S2x16x3456x144 : Shape := ⟨4, ![2, 16, 3456, 144]⟩
abbrev S_ : Shape := ⟨0, ![]⟩
abbrev S2x1x8x144 : Shape := ⟨4, ![2, 1, 8, 144]⟩
abbrev S2x15x8x144 : Shape := ⟨4, ![2, 15, 8, 144]⟩
abbrev S2x16x8x144 : Shape := ⟨4, ![2, 16, 8, 144]⟩
abbrev S2x8x144 : Shape := ⟨3, ![2, 8, 144]⟩
abbrev S144x48 : Shape := ⟨2, ![144, 48]⟩
abbrev S1x48 : Shape := ⟨2, ![1, 48]⟩
abbrev S3x48x48 : Shape := ⟨3, ![3, 48, 48]⟩
abbrev S2x55296x48 : Shape := ⟨3, ![2, 55296, 48]⟩
abbrev S1x3456x144 : Shape := ⟨3, ![1, 3456, 144]⟩
abbrev S1x1x8x144 : Shape := ⟨4, ![1, 1, 8, 144]⟩
abbrev S1x8x144 : Shape := ⟨3, ![1, 8, 144]⟩
abbrev S1x3456x48 : Shape := ⟨3, ![1, 3456, 48]⟩
abbrev S3456x144 : Shape := ⟨2, ![3456, 144]⟩
abbrev S8x144 : Shape := ⟨2, ![8, 144]⟩
abbrev S8x48 : Shape := ⟨2, ![8, 48]⟩
abbrev S3456x48 : Shape := ⟨2, ![3456, 48]⟩
abbrev S3472x48 : Shape := ⟨2, ![3472, 48]⟩
abbrev S2x48 : Shape := ⟨2, ![2, 48]⟩
abbrev S3472x2 : Shape := ⟨2, ![3472, 2]⟩
abbrev S1x48x48 : Shape := ⟨3, ![1, 48, 48]⟩
abbrev S48x48 : Shape := ⟨2, ![48, 48]⟩
abbrev S3470x48 : Shape := ⟨2, ![3470, 48]⟩
abbrev S2x128x144x144 : Shape := ⟨4, ![2, 128, 144, 144]⟩
abbrev S2x144x128x144 : Shape := ⟨4, ![2, 144, 128, 144]⟩

abbrev nBuf : Space → Nat
  | .hbm => 39
  | .vmem => 20
  | .smem => 0
  | _ => 0

abbrev bufTy : (tb : Table) → Fin (tcTables nBuf tb) → BufTy
  | .hbm, ⟨0, _⟩ => ⟨S2x384x144x144, .f32⟩
  | .hbm, ⟨1, _⟩ => ⟨S144x144, .f32⟩
  | .hbm, ⟨2, _⟩ => ⟨S144, .f32⟩
  | .hbm, ⟨3, _⟩ => ⟨S48x48x3, .f32⟩
  | .hbm, ⟨4, _⟩ => ⟨S48, .f32⟩
  | .hbm, ⟨5, _⟩ => ⟨S48x48x3, .f32⟩
  | .hbm, ⟨6, _⟩ => ⟨S48, .f32⟩
  | .hbm, ⟨7, _⟩ => ⟨S2x384x12x12x12x12, .f32⟩
  | .hbm, ⟨8, _⟩ => ⟨S2x384x12x12x12x12, .f32⟩
  | .hbm, ⟨9, _⟩ => ⟨S2x55296x144, .f32⟩
  | .hbm, ⟨10, _⟩ => ⟨S2x144x384x144, .f32⟩
  | .hbm, ⟨11, _⟩ => ⟨S2x384x144x144, .f32⟩
  | .hbm, ⟨12, _⟩ => ⟨S2x55296x144, .f32⟩
  | .hbm, ⟨13, _⟩ => ⟨S2x16x3456x144, .f32⟩
  | .hbm, ⟨14, _⟩ => ⟨S_, .f32⟩
  | .hbm, ⟨15, _⟩ => ⟨S2x1x8x144, .f32⟩
  | .hbm, ⟨16, _⟩ => ⟨S2x15x8x144, .f32⟩
  | .hbm, ⟨17, _⟩ => ⟨S2x16x8x144, .f32⟩
  | .hbm, ⟨18, _⟩ => ⟨S2x15x8x144, .f32⟩
  | .hbm, ⟨19, _⟩ => ⟨S2x16x8x144, .f32⟩
  | .hbm, ⟨20, _⟩ => ⟨S2x8x144, .f32⟩
  | .hbm, ⟨21, _⟩ => ⟨S144x144, .f32⟩
  | .hbm, ⟨22, _⟩ => ⟨S144x48, .f32⟩
  | .hbm, ⟨23, _⟩ => ⟨S144x48, .f32⟩
  | .hbm, ⟨24, _⟩ => ⟨S144x48, .f32⟩
  | .hbm, ⟨25, _⟩ => ⟨S48, .f32⟩
  | .hbm, ⟨26, _⟩ => ⟨S1x48, .f32⟩
  | .hbm, ⟨27, _⟩ => ⟨S48, .f32⟩
  | .hbm, ⟨28, _⟩ => ⟨S1x48, .f32⟩
  | .hbm, ⟨29, _⟩ => ⟨S48, .f32⟩
  | .hbm, ⟨30, _⟩ => ⟨S1x48, .f32⟩
  | .hbm, ⟨31, _⟩ => ⟨S3x48x48, .f32⟩
  | .hbm, ⟨32, _⟩ => ⟨S3x48x48, .f32⟩
  | .hbm, ⟨33, _⟩ => ⟨S1x48, .f32⟩
  | .hbm, ⟨34, _⟩ => ⟨S1x48, .f32⟩
  | .hbm, ⟨35, _⟩ => ⟨S2x55296x48, .f32⟩
  | .hbm, ⟨36, _⟩ => ⟨S2x128x144x144, .f32⟩
  | .hbm, ⟨37, _⟩ => ⟨S2x144x128x144, .f32⟩
  | .hbm, ⟨38, _⟩ => ⟨S2x128x144x144, .f32⟩
  | .local _ .vmem, ⟨0, _⟩ => ⟨S1x3456x144, .f32⟩
  | .local _ .vmem, ⟨1, _⟩ => ⟨S1x3456x144, .f32⟩
  | .local _ .vmem, ⟨2, _⟩ => ⟨S1x1x8x144, .f32⟩
  | .local _ .vmem, ⟨3, _⟩ => ⟨S1x1x8x144, .f32⟩
  | .local _ .vmem, ⟨4, _⟩ => ⟨S1x1x8x144, .f32⟩
  | .local _ .vmem, ⟨5, _⟩ => ⟨S1x1x8x144, .f32⟩
  | .local _ .vmem, ⟨6, _⟩ => ⟨S1x8x144, .f32⟩
  | .local _ .vmem, ⟨7, _⟩ => ⟨S1x8x144, .f32⟩
  | .local _ .vmem, ⟨8, _⟩ => ⟨S144x48, .f32⟩
  | .local _ .vmem, ⟨9, _⟩ => ⟨S144x48, .f32⟩
  | .local _ .vmem, ⟨10, _⟩ => ⟨S144x48, .f32⟩
  | .local _ .vmem, ⟨11, _⟩ => ⟨S1x48, .f32⟩
  | .local _ .vmem, ⟨12, _⟩ => ⟨S1x48, .f32⟩
  | .local _ .vmem, ⟨13, _⟩ => ⟨S1x48, .f32⟩
  | .local _ .vmem, ⟨14, _⟩ => ⟨S3x48x48, .f32⟩
  | .local _ .vmem, ⟨15, _⟩ => ⟨S1x48, .f32⟩
  | .local _ .vmem, ⟨16, _⟩ => ⟨S3x48x48, .f32⟩
  | .local _ .vmem, ⟨17, _⟩ => ⟨S1x48, .f32⟩
  | .local _ .vmem, ⟨18, _⟩ => ⟨S1x3456x48, .f32⟩
  | .local _ .vmem, ⟨19, _⟩ => ⟨S1x3456x48, .f32⟩
  | _, _ => ⟨S2x384x144x144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem14_1 : DmaSem sig := 19

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x3456x144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x8x144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x8x144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S144x48 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S144x48 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S144x48 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x48 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x48 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x48 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S3x48x48 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x48 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S3x48x48 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x48 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x3456x48 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== ReferenceIdeal.lean ====
abbrev S2x384x144x144 : Shape := ⟨4, ![2, 384, 144, 144]⟩
abbrev S144x144 : Shape := ⟨2, ![144, 144]⟩
abbrev S144 : Shape := ⟨1, ![144]⟩
abbrev S48x48x3 : Shape := ⟨3, ![48, 48, 3]⟩
abbrev S48 : Shape := ⟨1, ![48]⟩
abbrev S2x384x12x12x12x12 : Shape := ⟨6, ![2, 384, 12, 12, 12, 12]⟩
abbrev S2x55296x144 : Shape := ⟨3, ![2, 55296, 144]⟩
abbrev S2x144x384x144 : Shape := ⟨4, ![2, 144, 384, 144]⟩
abbrev S1x1x144 : Shape := ⟨3, ![1, 1, 144]⟩
abbrev S2x55296x48 : Shape := ⟨3, ![2, 55296, 48]⟩
abbrev S_ : Shape := ⟨0, ![]⟩
abbrev S2x48 : Shape := ⟨2, ![2, 48]⟩
abbrev S48x2 : Shape := ⟨2, ![48, 2]⟩
abbrev S2x2 : Shape := ⟨2, ![2, 2]⟩
abbrev S2x2x1 : Shape := ⟨3, ![2, 2, 1]⟩
abbrev S2x2x48 : Shape := ⟨3, ![2, 2, 48]⟩
abbrev S2x2x48x1 : Shape := ⟨4, ![2, 2, 48, 1]⟩
abbrev S1 : Shape := ⟨1, ![1]⟩
abbrev S1x1x1x1 : Shape := ⟨4, ![1, 1, 1, 1]⟩
abbrev S2x48x2 : Shape := ⟨3, ![2, 48, 2]⟩
abbrev S2x55296x2 : Shape := ⟨3, ![2, 55296, 2]⟩
abbrev S2x55296 : Shape := ⟨2, ![2, 55296]⟩
abbrev S2x55296x1 : Shape := ⟨3, ![2, 55296, 1]⟩
abbrev S2x55298x48 : Shape := ⟨3, ![2, 55298, 48]⟩
abbrev S48x48x1 : Shape := ⟨3, ![48, 48, 1]⟩
abbrev S48x48 : Shape := ⟨2, ![48, 48]⟩
abbrev S1x1x48 : Shape := ⟨3, ![1, 1, 48]⟩
abbrev S2x128x144x144 : Shape := ⟨4, ![2, 128, 144, 144]⟩
abbrev S2x144x128x144 : Shape := ⟨4, ![2, 144, 128, 144]⟩

abbrev nBuf : Space → Nat
  | .hbm => 148
  | .vmem => 0
  | .smem => 0
  | _ => 0

abbrev hbmTy0_0 (i : Nat) : BufTy := match i % 128 with
  | 0 => ⟨S2x384x144x144, .f32⟩
  | 1 => ⟨S144x144, .f32⟩
  | 2 => ⟨S144, .f32⟩
  | 3 => ⟨S48x48x3, .f32⟩
  | 4 => ⟨S48, .f32⟩
  | 5 => ⟨S48x48x3, .f32⟩
  | 6 => ⟨S48, .f32⟩
  | 7 => ⟨S2x384x12x12x12x12, .f32⟩
  | 8 => ⟨S2x384x12x12x12x12, .f32⟩
  | 9 => ⟨S2x55296x144, .f32⟩
  | 10 => ⟨S2x144x384x144, .f32⟩
  | 11 => ⟨S2x384x144x144, .f32⟩
  | 12 => ⟨S2x55296x144, .f32⟩
  | 13 => ⟨S144x144, .f32⟩
  | 14 => ⟨S2x55296x144, .f32⟩
  | 15 => ⟨S1x1x144, .f32⟩
  | 16 => ⟨S2x55296x144, .f32⟩
  | 17 => ⟨S2x55296x144, .f32⟩
  | 18 => ⟨S2x55296x48, .f32⟩
  | 19 => ⟨S2x55296x48, .f32⟩
  | 20 => ⟨S2x55296x48, .f32⟩
  | 21 => ⟨S_, .f32⟩
  | 22 => ⟨S2x48, .f32⟩
  | 23 => ⟨S_, .f32⟩
  | 24 => ⟨S2x48, .f32⟩
  | 25 => ⟨S2x48, .f32⟩
  | 26 => ⟨S_, .f32⟩
  | 27 => ⟨S2x48, .f32⟩
  | 28 => ⟨S_, .f32⟩
  | 29 => ⟨S2x48, .f32⟩
  | 30 => ⟨S2x48, .f32⟩
  | 31 => ⟨S48x2, .f32⟩
  | 32 => ⟨S2x2, .f32⟩
  | 33 => ⟨S2x2, .f32⟩
  | 34 => ⟨S2x2, .i32⟩
  | 35 => ⟨S2x2x1, .i32⟩
  | 36 => ⟨S2x2x48, .i32⟩
  | 37 => ⟨S_, .i32⟩
  | 38 => ⟨S2x2x48, .i32⟩
  | 39 => ⟨S2x2x48, .i1⟩
  | 40 => ⟨S_, .i32⟩
  | 41 => ⟨S2x2x48, .i32⟩
  | 42 => ⟨S2x2x48, .i32⟩
  | 43 => ⟨S2x2x48, .i32⟩
  | 44 => ⟨S2x2x48x1, .i32⟩
  | 45 => ⟨S1, .i32⟩
  | 46 => ⟨S_, .i32⟩
  | 47 => ⟨S2x2x48x1, .i32⟩
  | 48 => ⟨S2x2x48x1, .i1⟩
  | 49 => ⟨S1x1x1x1, .i32⟩
  | 50 => ⟨S2x2x48x1, .i32⟩
  | 51 => ⟨S2x2x48x1, .i1⟩
  | 52 => ⟨S2x2x48x1, .i1⟩
  | 53 => ⟨S_, .i1⟩
  | 54 => ⟨S2x2x48, .i1⟩
  | 55 => ⟨S2x2x48, .f32⟩
  | 56 => ⟨S_, .f32⟩
  | 57 => ⟨S2x2x48, .f32⟩
  | 58 => ⟨S2x2x48, .f32⟩
  | 59 => ⟨S_, .i32⟩
  | 60 => ⟨S2x2x48, .i32⟩
  | 61 => ⟨S2x2x48, .i1⟩
  | 62 => ⟨S_, .i32⟩
  | 63 => ⟨S2x2x48, .i32⟩
  | 64 => ⟨S2x2x48, .i32⟩
  | 65 => ⟨S2x2x48, .i32⟩
  | 66 => ⟨S2x2x48x1, .i32⟩
  | 67 => ⟨S1, .i32⟩
  | 68 => ⟨S_, .i32⟩
  | 69 => ⟨S2x2x48x1, .i32⟩
  | 70 => ⟨S2x2x48x1, .i1⟩
  | 71 => ⟨S1x1x1x1, .i32⟩
  | 72 => ⟨S2x2x48x1, .i32⟩
  | 73 => ⟨S2x2x48x1, .i1⟩
  | 74 => ⟨S2x2x48x1, .i1⟩
  | 75 => ⟨S_, .i1⟩
  | 76 => ⟨S2x2x48, .i1⟩
  | 77 => ⟨S2x2x48, .f32⟩
  | 78 => ⟨S_, .f32⟩
  | 79 => ⟨S2x2x48, .f32⟩
  | 80 => ⟨S2x2x48, .f32⟩
  | 81 => ⟨S2x48x2, .f32⟩
  | 82 => ⟨S2x55296x2, .f32⟩
  | 83 => ⟨S_, .f32⟩
  | 84 => ⟨S2x55296, .f32⟩
  | 85 => ⟨S_, .f32⟩
  | 86 => ⟨S2x55296, .f32⟩
  | 87 => ⟨S2x55296, .f32⟩
  | 88 => ⟨S2x55296x1, .f32⟩
  | 89 => ⟨S2x55296x2, .f32⟩
  | 90 => ⟨S2x55296x2, .f32⟩
  | 91 => ⟨S2x55296x2, .f32⟩
  | 92 => ⟨S_, .f32⟩
  | 93 => ⟨S2x55296, .f32⟩
  | 94 => ⟨S2x55296x1, .f32⟩
  | 95 => ⟨S2x55296x2, .f32⟩
  | 96 => ⟨S2x55296x2, .f32⟩
  | 97 => ⟨S2x55296x48, .f32⟩
  | 98 => ⟨S_, .i32⟩
  | 99 => ⟨S_, .f32⟩
  | 100 => ⟨S2x55298x48, .f32⟩
  | 101 => ⟨S2x55296x48, .f32⟩
  | 102 => ⟨S48x48x1, .f32⟩
  | 103 => ⟨S48x48, .f32⟩
  | 104 => ⟨S48x48, .f32⟩
  | 105 => ⟨S2x55296x48, .f32⟩
  | 106 => ⟨S2x55296x48, .f32⟩
  | 107 => ⟨S48x48x1, .f32⟩
  | 108 => ⟨S48x48, .f32⟩
  | 109 => ⟨S48x48, .f32⟩
  | 110 => ⟨S2x55296x48, .f32⟩
  | 111 => ⟨S2x55296x48, .f32⟩
  | 112 => ⟨S2x55296x48, .f32⟩
  | 113 => ⟨S48x48x1, .f32⟩
  | 114 => ⟨S48x48, .f32⟩
  | 115 => ⟨S48x48, .f32⟩
  | 116 => ⟨S2x55296x48, .f32⟩
  | 117 => ⟨S2x55296x48, .f32⟩
  | 118 => ⟨S1x1x48, .f32⟩
  | 119 => ⟨S2x55296x48, .f32⟩
  | 120 => ⟨S2x55296x48, .f32⟩
  | 121 => ⟨S2x55296x48, .f32⟩
  | 122 => ⟨S_, .i32⟩
  | 123 => ⟨S_, .f32⟩
  | 124 => ⟨S2x55298x48, .f32⟩
  | 125 => ⟨S2x55296x48, .f32⟩
  | 126 => ⟨S48x48x1, .f32⟩
  | 127 => ⟨S48x48, .f32⟩
  | _ => ⟨S2x384x144x144, .f32⟩

abbrev hbmTy0_1 (i : Nat) : BufTy := match i % 128 with
  | 0 => ⟨S48x48, .f32⟩
  | 1 => ⟨S2x55296x48, .f32⟩
  | 2 => ⟨S2x55296x48, .f32⟩
  | 3 => ⟨S48x48x1, .f32⟩
  | 4 => ⟨S48x48, .f32⟩
  | 5 => ⟨S48x48, .f32⟩
  | 6 => ⟨S2x55296x48, .f32⟩
  | 7 => ⟨S2x55296x48, .f32⟩
  | 8 => ⟨S2x55296x48, .f32⟩
  | 9 => ⟨S48x48x1, .f32⟩
  | 10 => ⟨S48x48, .f32⟩
  | 11 => ⟨S48x48, .f32⟩
  | 12 => ⟨S2x55296x48, .f32⟩
  | 13 => ⟨S2x55296x48, .f32⟩
  | 14 => ⟨S1x1x48, .f32⟩
  | 15 => ⟨S2x55296x48, .f32⟩
  | 16 => ⟨S2x55296x48, .f32⟩
  | 17 => ⟨S2x128x144x144, .f32⟩
  | 18 => ⟨S2x144x128x144, .f32⟩
  | 19 => ⟨S2x128x144x144, .f32⟩
  | _ => ⟨S2x384x144x144, .f32⟩

abbrev hbmTy (i : Nat) : BufTy := match i / 128 with
  | 0 => hbmTy0_0 i
  | 1 => hbmTy0_1 i
  | _ => ⟨S2x384x144x144, .f32⟩

abbrev bufTy : (tb : Table) → Fin (tcTables nBuf tb) → BufTy
  | .hbm, ⟨i, _⟩ => hbmTy i
  | _, _ => ⟨S2x384x144x144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_values : Ref sig .tc := ⟨.hbm, 33, rfl⟩
abbrev main_indices : Ref sig .tc := ⟨.hbm, 34, rfl⟩
abbrev main_v22 : Ref sig .tc := ⟨.hbm, 35, rfl⟩
abbrev main_v23 : Ref sig .tc := ⟨.hbm, 36, rfl⟩
abbrev main_call0_c : Ref sig .tc := ⟨.hbm, 37, rfl⟩
abbrev main_call0_v0 : Ref sig .tc := ⟨.hbm, 38, rfl⟩
abbrev main_call0_v1 : Ref sig .tc := ⟨.hbm, 39, rfl⟩
abbrev main_call0_c_0 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_call0_c_1 : Ref sig .tc := ⟨.hbm, 45, rfl⟩
abbrev main_call0_c_2 : Ref sig .tc := ⟨.hbm, 46, rfl⟩
abbrev main_call0_v6 : Ref sig .tc := ⟨.hbm, 47, rfl⟩
abbrev main_call0_v7 : Ref sig .tc := ⟨.hbm, 48, rfl⟩
abbrev main_call0_v8 : Ref sig .tc := ⟨.hbm, 49, rfl⟩
abbrev main_call0_v9 : Ref sig .tc := ⟨.hbm, 50, rfl⟩
abbrev main_call0_v10 : Ref sig .tc := ⟨.hbm, 51, rfl⟩
abbrev main_call0_v11 : Ref sig .tc := ⟨.hbm, 52, rfl⟩
abbrev main_call0_c_3 : Ref sig .tc := ⟨.hbm, 53, rfl⟩
abbrev main_call0_v12 : Ref sig .tc := ⟨.hbm, 54, rfl⟩
abbrev main_call0_v13 : Ref sig .tc := ⟨.hbm, 55, rfl⟩
abbrev main_call0_cst : Ref sig .tc := ⟨.hbm, 56, rfl⟩
abbrev main_call0_v14 : Ref sig .tc := ⟨.hbm, 57, rfl⟩
abbrev main_v24 : Ref sig .tc := ⟨.hbm, 58, rfl⟩
abbrev main_call1_c : Ref sig .tc := ⟨.hbm, 59, rfl⟩
abbrev main_call1_v0 : Ref sig .tc := ⟨.hbm, 60, rfl⟩
abbrev main_call1_v1 : Ref sig .tc := ⟨.hbm, 61, rfl⟩
abbrev main_call1_c_0 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_v5 : Ref sig .tc := ⟨.hbm, 66, rfl⟩
abbrev main_call1_c_1 : Ref sig .tc := ⟨.hbm, 67, rfl⟩
abbrev main_call1_c_2 : Ref sig .tc := ⟨.hbm, 68, rfl⟩
abbrev main_call1_v6 : Ref sig .tc := ⟨.hbm, 69, rfl⟩
abbrev main_call1_v7 : Ref sig .tc := ⟨.hbm, 70, rfl⟩
abbrev main_call1_v8 : Ref sig .tc := ⟨.hbm, 71, rfl⟩
abbrev main_call1_v9 : Ref sig .tc := ⟨.hbm, 72, rfl⟩
abbrev main_call1_v10 : Ref sig .tc := ⟨.hbm, 73, rfl⟩
abbrev main_call1_v11 : Ref sig .tc := ⟨.hbm, 74, rfl⟩
abbrev main_call1_c_3 : Ref sig .tc := ⟨.hbm, 75, rfl⟩
abbrev main_call1_v12 : Ref sig .tc := ⟨.hbm, 76, rfl⟩
abbrev main_call1_v13 : Ref sig .tc := ⟨.hbm, 77, rfl⟩
abbrev main_call1_cst : Ref sig .tc := ⟨.hbm, 78, rfl⟩
abbrev main_call1_v14 : Ref sig .tc := ⟨.hbm, 79, rfl⟩
abbrev main_v25 : Ref sig .tc := ⟨.hbm, 80, rfl⟩
abbrev main_v26 : Ref sig .tc := ⟨.hbm, 81, rfl⟩
abbrev main_v27 : Ref sig .tc := ⟨.hbm, 82, rfl⟩
abbrev main_cst_3 : Ref sig .tc := ⟨.hbm, 83, rfl⟩
abbrev main_v28 : Ref sig .tc := ⟨.hbm, 84, rfl⟩
abbrev main_cst_4 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_cst_5 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev main_v39 : Ref sig .tc := ⟨.hbm, 97, rfl⟩
abbrev main_c : Ref sig .tc := ⟨.hbm, 98, rfl⟩
abbrev main_call2_v0 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_v56 : Ref sig .tc := ⟨.hbm, 116, rfl⟩
abbrev main_v57 : Ref sig .tc := ⟨.hbm, 117, rfl⟩
abbrev main_v58 : Ref sig .tc := ⟨.hbm, 118, rfl⟩
abbrev main_v59 : Ref sig .tc := ⟨.hbm, 119, rfl⟩
abbrev main_v60 : Ref sig .tc := ⟨.hbm, 120, rfl⟩
abbrev main_v61 : Ref sig .tc := ⟨.hbm, 121, rfl⟩
abbrev main_c_6 : Ref sig .tc := ⟨.hbm, 122, rfl⟩
abbrev main_call3_v0 : Ref sig .tc := ⟨.hbm, 123, rfl⟩
abbrev main_v62 : Ref sig .tc := ⟨.hbm, 124, rfl⟩
abbrev main_v63 : Ref sig .tc := ⟨.hbm, 125, rfl⟩
abbrev main_v64 : Ref sig .tc := ⟨.hbm, 126, rfl⟩
abbrev main_v65 : Ref sig .tc := ⟨.hbm, 127, rfl⟩
abbrev main_v66 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_v70 : Ref sig .tc := ⟨.hbm, 132, rfl⟩
abbrev main_v71 : Ref sig .tc := ⟨.hbm, 133, rfl⟩
abbrev main_v72 : Ref sig .tc := ⟨.hbm, 134, rfl⟩
abbrev main_v73 : Ref sig .tc := ⟨.hbm, 135, rfl⟩
abbrev main_v74 : Ref sig .tc := ⟨.hbm, 136, rfl⟩
abbrev main_v75 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩

abbrev nD : Nat := 1
abbrev τ : Topo := Topo.v7x

variable {F : FTy → Type} [FloatOps F]
-- ==== Proof.Spec.lean ====
/- The mathematics of the problem on plain tables of extended reals, independent of either program: a linear layer, a
   table of rows continued by zeros, a three-tap convolution along the rows, and the attention of one token to the two
   regions. Two facts are proved here about the attention: it does not depend on the order of the two regions, and on
   finite queries and keys it is the weighting by the logistic function of the difference of the two scores. -/
module

public import Idealize.ShloMosaic.PureOps.Ideal.Laws
public import Mathlib.Algebra.BigOperators.Fin

@[expose] public section

noncomputable section

namespace Cert.Region

open Idealize.ShloMosaic

/-- The number of tokens of one batch. -/
abbrev L : Nat := 55296

/-- A linear layer on one row `x`: channel `c` is the row times row `c` of the weights, plus the bias. -/
def lin (x : Fin 144 → EReal) (w : Fin 48 → Fin 144 → EReal) (β : Fin 48 → EReal) (c : Fin 48) : EReal :=
  (∑ k : Fin 144, x k * w c k) + β c

/-- The table `f` with a row of zeros put before it: row `n` is row `n - 1` of `f`, and zero outside of `f`. -/
def padRow (f : Fin L → Fin 48 → EReal) (n : Nat) (c : Fin 48) : EReal :=
  if h : 1 ≤ n ∧ n ≤ L then f ⟨n - 1, by omega⟩ c else 0

theorem padRow_of_mem (f : Fin L → Fin 48 → EReal) (n : Nat) (c : Fin 48) (h : 1 ≤ n ∧ n ≤ L) :
    padRow f n c = f ⟨n - 1, by omega⟩ c := dif_pos h

theorem padRow_of_not_mem (f : Fin L → Fin 48 → EReal) (n : Nat) (c : Fin 48) (h : ¬(1 ≤ n ∧ n ≤ L)) :
    padRow f n c = 0 := dif_neg h

/-- One tap of a convolution: row `n` of the padded table times tap `t` of the weights of output channel `o`. -/
def tap (w : Fin 48 → Fin 48 → Fin 3 → EReal) (f : Fin L → Fin 48 → EReal) (t : Fin 3) (n : Nat) (o : Fin 48) : EReal :=
  ∑ c : Fin 48, padRow f n c * w o c t

/-- The convolution along the rows with three taps, one row of zeros on either side, and a bias. -/
def conv (w : Fin 48 → Fin 48 → Fin 3 → EReal) (β : Fin 48 → EReal) (f : Fin L → Fin 48 → EReal) (r : Nat) (o : Fin 48) : EReal :=
  ((tap w f 0 r o + tap w f 1 (r + 1) o) + tap w f 2 (r + 2) o) + β o

/-- The softmax of two scores, as weights of two values: each score's exponential, the greater score subtracted first,
    divided by the sum of the two. -/
def attend (s y : Fin 2 → EReal) : EReal :=
  ∑ j : Fin 2, Ideal.div (Ideal.exp (s j - max (s 0) (s 1)))
    (Ideal.exp (s 0 - max (s 0) (s 1)) + Ideal.exp (s 1 - max (s 0) (s 1))) * y j

/-- The order in which the two regions are listed does not matter. -/
theorem attend_perm (s y : Fin 2 → EReal) (σ : Fin 2 → Fin 2) (hσ : σ 0 ≠ σ 1) :
    attend (fun j => s (σ j)) (fun j => y (σ j)) = attend s y := by
  have h : (σ 0 = 0 ∧ σ 1 = 1) ∨ (σ 0 = 1 ∧ σ 1 = 0) := by
    revert hσ; generalize σ 0 = a; generalize σ 1 = b; revert a b; decide
  unfold attend
  rcases h with ⟨h0, h1⟩ | ⟨h0, h1⟩
  · simp only [Fin.sum_univ_two, h0, h1]
  · simp only [Fin.sum_univ_two, h0, h1]
    rw [max_comm (s 1) (s 0), add_comm (Ideal.exp (s 1 - _)) (Ideal.exp (s 0 - _)), add_comm]

/-- The softmax weight of the first of two real scores is the logistic function of their difference. -/
theorem weight_real (a b : ℝ) :
    Ideal.div (Ideal.exp ((a : EReal) - max (a : EReal) b)) (Ideal.exp ((a : EReal) - max (a : EReal) b) + Ideal.exp ((b : EReal) - max (a : EReal) b))
      = Ideal.logistic ((a - b : ℝ) : EReal) := by
  rw [← EReal.coe_strictMono.monotone.map_max, ← EReal.coe_sub, ← EReal.coe_sub, Ideal.exp_coe, Ideal.exp_coe, ← EReal.coe_add, Ideal.logistic_coe]
  have ha := Real.exp_pos (a - max a b)
  have hb := Real.exp_pos (b - max a b)
  rw [Ideal.div_coe (by positivity), ← EReal.coe_mul]
  congr 1
  have hab : Real.exp (b - max a b) = Real.exp (a - max a b) * Real.exp (-(a - b)) := by
    rw [← Real.exp_add]; congr 1; ring
  have hc := Real.exp_pos (-(a - b))
  rw [hab]
  field_simp

/-- A finite sum of products of real numbers is a real number. -/
theorem sum_mul_real {n : Nat} (q k : Fin n → ℝ) :
    (∑ c : Fin n, (q c : EReal) * (k c : EReal)) = ((∑ c : Fin n, q c * k c : ℝ) : EReal) := by
  simp only [← EReal.coe_mul]
  exact (map_sum (⟨⟨Real.toEReal, EReal.coe_zero⟩, EReal.coe_add⟩ : ℝ →+ EReal) _ _).symm

/-- On real queries and keys, the attention is the weighting by the logistic function of the query times the difference
    of the two keys, and of the query times the opposite difference. -/
theorem attend_logistic (q : Fin 48 → EReal) (k : Fin 2 → Fin 48 → EReal) (y : Fin 2 → EReal)
    (hq : ∀ c, ∃ a : ℝ, q c = (a : EReal)) (hk : ∀ j c, ∃ a : ℝ, k j c = (a : EReal)) :
    Ideal.logistic (∑ c : Fin 48, q c * (k 0 c - k 1 c)) * y 0 + Ideal.logistic (∑ c : Fin 48, q c * (0 - (k 0 c - k 1 c))) * y 1
      = attend (fun j => ∑ c : Fin 48, q c * k j c) y := by
  choose a ha using hq
  choose b hb using hk
  have e0 : ∀ c, k 0 c - k 1 c = ((b 0 c - b 1 c : ℝ) : EReal) := fun c => by rw [hb, hb, ← EReal.coe_sub]
  have e1 : ∀ c, (0 : EReal) - ((b 0 c - b 1 c : ℝ) : EReal) = ((b 1 c - b 0 c : ℝ) : EReal) := fun c => by
    rw [← EReal.coe_zero, ← EReal.coe_sub]; congr 1; ring
  unfold attend
  simp only [Fin.sum_univ_two, e0, e1]
  simp only [ha, hb, sum_mul_real]
  rw [weight_real, max_comm, add_comm (Ideal.exp _) (Ideal.exp _), weight_real]
  congr 4 <;> rw [← Finset.sum_sub_distrib] <;> exact congrArg _ (funext fun c => by ring)

/-- The problem's data for one batch: the tokens, the weights and biases of the queries, the keys and the values, and
    those of the two convolutions (output channel, input channel, tap). -/
structure Tables where
  x : Fin L → Fin 144 → EReal
  wq : Fin 48 → Fin 144 → EReal
  wk : Fin 48 → Fin 144 → EReal
  wv : Fin 48 → Fin 144 → EReal
  bq : Fin 48 → EReal
  bk : Fin 48 → EReal
  bv : Fin 48 → EReal
  wd : Fin 48 → Fin 48 → Fin 3 → EReal
  bd : Fin 48 → EReal
  wu : Fin 48 → Fin 48 → Fin 3 → EReal
  bu : Fin 48 → EReal

namespace Tables

variable (T : Tables)

/-- The queries of the tokens. -/
def q (r : Fin L) (c : Fin 48) : EReal := lin (T.x r) T.wq T.bq c
/-- The keys of the tokens. -/
def k (r : Fin L) (c : Fin 48) : EReal := lin (T.x r) T.wk T.bk c
/-- The values of the tokens. -/
def v (r : Fin L) (c : Fin 48) : EReal := lin (T.x r) T.wv T.bv c

/-- The token that stands for region `j`: the chosen regions are tokens 0 and 1. -/
def region (j : Fin 2) : Fin L := ⟨j.val, by have := j.isLt; simp only [L]; omega⟩

/-- The attention of token `r` to the two regions. -/
def att (r : Fin L) (c : Fin 48) : EReal :=
  attend (fun j => ∑ d : Fin 48, T.q r d * T.k (region j) d) (fun j => T.v (region j) c)

/-- The attention plus the down convolution of the values. -/
def mid (r : Fin L) (c : Fin 48) : EReal := T.att r c + conv T.wd T.bd T.v r.val c

/-- The up convolution of the former: the result before it is laid out as an image. -/
def out (r : Nat) (o : Fin 48) : EReal := conv T.wu T.bu T.mid r o

/-- The tokens and the linear layers hold real numbers. -/
def Finite : Prop :=
  (∀ r c, ∃ a : ℝ, T.q r c = (a : EReal)) ∧ ∀ r c, ∃ a : ℝ, T.k r c = (a : EReal)

end Tables

/-- The tables of batch `b`, from the program's arrays read as functions: the tokens, the joint weights and biases of the
    queries (channels 0 to 47), the keys (48 to 95) and the values (96 to 143), and the two convolutions'. -/
def tables (x : Fin 2 → Fin L → Fin 144 → EReal) (w : Fin 144 → Fin 144 → EReal) (β : Fin 144 → EReal)
    (wd : Fin 48 → Fin 48 → Fin 3 → EReal) (bd : Fin 48 → EReal) (wu : Fin 48 → Fin 48 → Fin 3 → EReal) (bu : Fin 48 → EReal)
    (b : Fin 2) : Tables where
  x := x b
  wq c k := w ⟨c.val, by omega⟩ k
  wk c k := w ⟨48 + c.val, by omega⟩ k
  wv c k := w ⟨96 + c.val, by omega⟩ k
  bq c := β ⟨c.val, by omega⟩
  bk c := β ⟨48 + c.val, by omega⟩
  bv c := β ⟨96 + c.val, by omega⟩
  wd := wd
  bd := bd
  wu := wu
  bu := bu

/-- A linear layer of real numbers on real numbers gives real numbers. -/
theorem lin_real (x : Fin 144 → EReal) (w : Fin 48 → Fin 144 → EReal) (β : Fin 48 → EReal) (hx : ∀ k, ∃ a : ℝ, x k = (a : EReal))
    (hw : ∀ c k, ∃ a : ℝ, w c k = (a : EReal)) (hβ : ∀ c, ∃ a : ℝ, β c = (a : EReal)) (c : Fin 48) :
    ∃ a : ℝ, lin x w β c = (a : EReal) := by
  choose x' hx' using hx
  choose w' hw' using hw
  choose b' hb' using hβ
  refine ⟨(∑ k : Fin 144, x' k * w' c k) + b' c, ?_⟩
  unfold lin
  simp only [hx', hw', hb']
  rw [sum_mul_real, ← EReal.coe_add]

/-- Tables made of real tokens, and of real weights and biases in the channels of the queries and the keys, have real
    queries and keys. -/
theorem tables_finite (x : Fin 2 → Fin L → Fin 144 → EReal) (w : Fin 144 → Fin 144 → EReal) (β : Fin 144 → EReal)
    (wd : Fin 48 → Fin 48 → Fin 3 → EReal) (bd : Fin 48 → EReal) (wu : Fin 48 → Fin 48 → Fin 3 → EReal) (bu : Fin 48 → EReal)
    (b : Fin 2) (hx : ∀ b r k, ∃ a : ℝ, x b r k = (a : EReal)) (hw : ∀ c k, c.val < 96 → ∃ a : ℝ, w c k = (a : EReal))
    (hβ : ∀ c, c.val < 96 → ∃ a : ℝ, β c = (a : EReal)) : (tables x w β wd bd wu bu b).Finite :=
  ⟨fun r c => lin_real _ _ _ (hx b r) (fun _ _ => hw _ _ (by dsimp only; omega)) (fun _ => hβ _ (by dsimp only; omega)) c,
    fun r c => lin_real _ _ _ (hx b r) (fun _ _ => hw _ _ (by dsimp only; omega)) (fun _ => hβ _ (by dsimp only; omega)) c⟩

end Cert.Region

end
-- ==== Proof.KernelBody.lean ====
/- What the kernel's body leaves in its output block, read at an index, from what its input blocks hold. Row `ρ` of the
   body's extended block (8 rows of the block before, 3456 rows, 8 rows of the block after) is token
   `3456 * i + ρ - 8` of the batch, when there is such a token; the body puts zeros at the other rows. -/
module

public import proofs.«01_k».proof.Proof.Spec
public import proofs.«01_k».proof.Proof.Gen.KernelIdeal.Frame
public import Idealize.ShloMosaic.Lib.Pointwise
public import Idealize.ShloMosaic.Lib.Tactic.WordOmega

@[expose] public section

set_option maxRecDepth 16384

noncomputable section

namespace Cert.KernelIdeal.Body

open Idealize.ShloMosaic Cert.KernelIdeal Cert.KernelIdeal.Gen Cert.Region

/-- What the input blocks of grid point `(b, i)` hold, in terms of the batch's tables: the tokens `3456 * i` and
    following, the 8 before (after the first block), the 8 after (before the last block), the first 8 of the batch, and
    the weights and biases. -/
structure Blocks (T : Tables) (i : Nat) (x0 : Vec Ideal S1x3456x144 .f32) (x1 x2 : Vec Ideal S1x1x8x144 .f32) (x3 : Vec Ideal S1x8x144 .f32)
    (x4 x5 x6 : Vec Ideal S144x48 .f32) (x7 x8 x9 : Vec Ideal S1x48 .f32) (x10 : Vec Ideal S3x48x48 .f32) (x11 : Vec Ideal S1x48 .f32)
    (x12 : Vec Ideal S3x48x48 .f32) (x13 : Vec Ideal S1x48 .f32) : Prop where
  lt : i < 16
  own : ∀ (p : Fin 3456) (k : Fin 144) (h : i * 3456 + p.val < L), x0 (ix3 0 p k) = T.x ⟨i * 3456 + p.val, h⟩ k
  before : ∀ (p : Fin 8) (k : Fin 144) (h : i * 3456 + p.val - 8 < L), 0 < i → x1 (ix4 0 0 p k) = T.x ⟨i * 3456 + p.val - 8, h⟩ k
  after : ∀ (p : Fin 8) (k : Fin 144) (h : i * 3456 + 3456 + p.val < L), i < 15 → x2 (ix4 0 0 p k) = T.x ⟨i * 3456 + 3456 + p.val, h⟩ k
  first : ∀ (p : Fin 8) (k : Fin 144) (h : p.val < L), x3 (ix3 0 p k) = T.x ⟨p.val, h⟩ k
  wq : ∀ (k : Fin 144) (c : Fin 48), x4 (ix2 k c) = T.wq c k
  wk : ∀ (k : Fin 144) (c : Fin 48), x5 (ix2 k c) = T.wk c k
  wv : ∀ (k : Fin 144) (c : Fin 48), x6 (ix2 k c) = T.wv c k
  bq : ∀ c : Fin 48, x7 (ix2 0 c) = T.bq c
  bk : ∀ c : Fin 48, x8 (ix2 0 c) = T.bk c
  bv : ∀ c : Fin 48, x9 (ix2 0 c) = T.bv c
  wd : ∀ (t : Fin 3) (c o : Fin 48), x10 (ix3 t c o) = T.wd o c t
  bd : ∀ c : Fin 48, x11 (ix2 0 c) = T.bd c
  wu : ∀ (t : Fin 3) (c o : Fin 48), x12 (ix3 t c o) = T.wu o c t
  bu : ∀ c : Fin 48, x13 (ix2 0 c) = T.bu c

/-- A linear layer of the extended block, at a row that is a token of the batch, is the layer on that token. -/
theorem ext_row (X : Fin L → Fin 144 → EReal) (i : Nat) (x0 : Vec Ideal S1x3456x144 .f32) (x1 x2 : Vec Ideal S1x1x8x144 .f32)
    (w : Vec Ideal S144x48 .f32) (b : Vec Ideal S1x48 .f32) (wt : Fin 48 → Fin 144 → EReal) (bt : Fin 48 → EReal) (hi : i < 16)
    (own : ∀ (p : Fin 3456) (k : Fin 144) (h : i * 3456 + p.val < L), x0 (ix3 0 p k) = X ⟨i * 3456 + p.val, h⟩ k)
    (before : ∀ (p : Fin 8) (k : Fin 144) (h : i * 3456 + p.val - 8 < L), 0 < i → x1 (ix4 0 0 p k) = X ⟨i * 3456 + p.val - 8, h⟩ k)
    (after : ∀ (p : Fin 8) (k : Fin 144) (h : i * 3456 + 3456 + p.val < L), i < 15 → x2 (ix4 0 0 p k) = X ⟨i * 3456 + 3456 + p.val, h⟩ k)
    (hw : ∀ (k : Fin 144) (c : Fin 48), w (ix2 k c) = wt c k) (hb : ∀ c : Fin 48, b (ix2 0 c) = bt c)
    (ρ : Fin 3472) (c : Fin 48) (h1 : 8 ≤ i * 3456 + ρ.val) (h2 : i * 3456 + ρ.val - 8 < L) :
    k0_pay8 (F := Ideal) x0 x1 x2 w b (ix2 ρ c) = lin (X ⟨i * 3456 + ρ.val - 8, h2⟩) wt bt c := by
  pointwise [k0_pay8, k0_pay6, k0_pay2, k0_pay3, k0_pay4]
  unfold lin
  rw [hb]
  congr 1
  have h3 := h2
  simp only [L] at h3
  split
  · rename_i hlt
    refine Finset.sum_congr rfl fun k _ => ?_
    rw [hw, before _ k (by exact h2) (by omega)]
  · split
    · rename_i hge hlt
      refine Finset.sum_congr rfl fun k _ => ?_
      rw [hw, own _ k (by show i * 3456 + (ρ.val - 8) < L; simp only [L]; omega)]
      congr 3
      show i * 3456 + (ρ.val - 8) = i * 3456 + ρ.val - 8
      omega
    · rename_i hge hge'
      have hρ := ρ.isLt
      refine Finset.sum_congr rfl fun k _ => ?_
      rw [hw, after _ k (by show i * 3456 + 3456 + (ρ.val - 8 - 3456) < L; simp only [L]; omega) (by omega)]
      congr 3
      show i * 3456 + 3456 + (ρ.val - 8 - 3456) = i * 3456 + ρ.val - 8
      omega

/-- The queries' linear layer is computed the same way as the values'. -/
theorem pay7_eq_pay8 : @k0_pay7 Ideal _ = @k0_pay8 Ideal _ := rfl

/-- The row numbers that the mask is computed from. -/
abbrev rows : IVec S3472x48 32 := iota Kind.tc S3472x48 32 [0] iota_S3472x48_d0_w32

/-- The body's mask at row `ρ` of the extended block says whether that row is a token of the batch. -/
theorem mask_row (i : Nat) (hi : i < 16) (ρ : Fin 3472) (c : Fin 48) :
    k0_pay9 (BitVec.ofNat 32 i) rows 3456#32 (ix2 ρ c) = if 8 ≤ i * 3456 + ρ.val ∧ i * 3456 + ρ.val - 8 < L then 1#1 else 0#1 := by
  unfold rows
  pointwise [k0_pay9]
  have hρ := ρ.isLt
  have hw : Scalar.subi (Scalar.muli (BitVec.ofNat 32 i) 3456#32) 8#32 = BitVec.ofNat 32 (i * 3456 + 4294967288) := by
    apply BitVec.eq_of_toNat_eq
    simp only [Scalar.subi, Scalar.muli, IntOp.subi, IntOp.muli, BitVec.toNat_sub, BitVec.toNat_mul, BitVec.toNat_ofNat]
    omega
  rw [hw]
  simp only [L]
  split
  · word_omega
  · word_omega

/-- A selection by the mask at row `ρ` takes the first value at a token of the batch, the second elsewhere. -/
theorem select_mask (i : Nat) (hi : i < 16) (ρ : Fin 3472) (c : Fin 48) (a b : EReal) :
    Scalar.select (k0_pay9 (BitVec.ofNat 32 i) rows 3456#32 (ix2 ρ c)) a b
      = if 8 ≤ i * 3456 + ρ.val ∧ i * 3456 + ρ.val - 8 < L then a else b := by
  rw [mask_row i hi]
  split <;> rfl

/-- The masked layer is the layer where the mask is set, and zero elsewhere. -/
theorem pay10_apply (a : BitVec 32) (v : FVec Ideal S3472x48 .f32) (m : IVec S3472x48 32) (x : BitVec 32) (ρ : Fin 3472) (c : Fin 48) :
    k0_pay10 (F := Ideal) a v m x (ix2 ρ c) = Scalar.select (k0_pay9 a m x (ix2 ρ c)) (v (ix2 ρ c)) 0 := by
  pointwise [k0_pay10, k0_pay9]

variable {T : Tables} {i : Nat} {x0 : Vec Ideal S1x3456x144 .f32} {x1 x2 : Vec Ideal S1x1x8x144 .f32} {x3 : Vec Ideal S1x8x144 .f32}
  {x4 x5 x6 : Vec Ideal S144x48 .f32} {x7 x8 x9 : Vec Ideal S1x48 .f32} {x10 : Vec Ideal S3x48x48 .f32} {x11 : Vec Ideal S1x48 .f32}
  {x12 : Vec Ideal S3x48x48 .f32} {x13 : Vec Ideal S1x48 .f32}

/-- The masked values at row `ρ` are the padded values at place `3456 * i + ρ - 7`. -/
theorem masked_v (B : Blocks T i x0 x1 x2 x3 x4 x5 x6 x7 x8 x9 x10 x11 x12 x13) (ρ : Fin 3472) (c : Fin 48) :
    k0_pay10 (F := Ideal) (BitVec.ofNat 32 i) (k0_pay8 x0 x1 x2 x6 x9) rows 3456#32 (ix2 ρ c) = padRow T.v (i * 3456 + ρ.val - 7) c := by
  rw [pay10_apply, select_mask i B.lt]
  split
  · rename_i h
    rw [ext_row T.x i x0 x1 x2 x6 x9 T.wv T.bv B.lt B.own B.before B.after B.wv B.bv ρ c h.1 h.2,
      padRow_of_mem T.v _ c (by omega)]
    show _ = lin (T.x ⟨i * 3456 + ρ.val - 7 - 1, _⟩) T.wv T.bv c
    congr 2
  · rename_i h
    rw [padRow_of_not_mem T.v _ c (by simp only [L] at h ⊢; omega)]

/-- The attention of the extended block at a row that is a token of the batch. -/
theorem att_row (B : Blocks T i x0 x1 x2 x3 x4 x5 x6 x7 x8 x9 x10 x11 x12 x13) (hT : T.Finite) (ρ : Fin 3472) (c : Fin 48)
    (h1 : 8 ≤ i * 3456 + ρ.val) (h2 : i * 3456 + ρ.val - 8 < L) :
    k0_pay11 (F := Ideal) (k0_pay5 x3) (k0_pay6 x6) (k0_pay7 x0 x1 x2 x4 x7) x5 x8 x9 (ix2 ρ c) = T.att ⟨i * 3456 + ρ.val - 8, h2⟩ c := by
  have hq : ∀ d : Fin 48, k0_pay7 (F := Ideal) x0 x1 x2 x4 x7 (ix2 ρ d) = T.q ⟨i * 3456 + ρ.val - 8, h2⟩ d := fun d => by
    rw [pay7_eq_pay8]
    exact ext_row T.x i x0 x1 x2 x4 x7 T.wq T.bq B.lt B.own B.before B.after B.wq B.bq ρ d h1 h2
  have h5 : ∀ (j : Fin 8) (k : Fin 144), k0_pay5 (F := Ideal) x3 (ix2 j k) = T.x ⟨j.val, by have := j.isLt; simp only [L]; omega⟩ k := fun j k => by
    pointwise [k0_pay5]
    exact B.first j k _
  have h6 : ∀ (k : Fin 144) (d : Fin 48), k0_pay6 (F := Ideal) x6 (ix2 k d) = T.wv d k := fun k d => by
    pointwise [k0_pay6]
    exact B.wv k d
  pointwise [k0_pay11]
  simp only [Fin.sum_univ_one, Finset.univ_unique, Finset.sum_singleton]
  simp only [hq, h5, h6, B.wk, B.bk, B.bv]
  exact attend_logistic (T.q ⟨i * 3456 + ρ.val - 8, h2⟩) (fun j => T.k (Tables.region j)) (fun j => T.v (Tables.region j) c)
    (hT.1 _) (fun j => hT.2 _)

/-- The body's masked middle layer times a weight, at row `s + 1` of the extended block, is the padded middle layer at place
    `3456 * i + s - 6` times that weight. -/
theorem mid_row (B : Blocks T i x0 x1 x2 x3 x4 x5 x6 x7 x8 x9 x10 x11 x12 x13) (hT : T.Finite) (s : Nat) (c : Fin 48)
    (hs0 : s < 3472) (hs1 : 1 + s < 3472) (hs2 : 2 + s < 3472) (w : EReal) :
    Scalar.select (k0_pay9 (BitVec.ofNat 32 i) rows 3456#32 (ix2 ⟨1 + s, hs1⟩ c))
        (((((k0_pay11 (F := Ideal) (k0_pay5 x3) (k0_pay6 x6) (k0_pay7 x0 x1 x2 x4 x7) x5 x8 x9 (ix2 ⟨1 + s, hs1⟩ c) + x11 (ix2 0 c))
          + ∑ d : Fin 48, k0_pay10 (F := Ideal) (BitVec.ofNat 32 i) (k0_pay8 x0 x1 x2 x6 x9) rows 3456#32 (ix2 ⟨1 + s, hs1⟩ d) * x10 (ix3 1 d c))
          + ∑ d : Fin 48, k0_pay10 (F := Ideal) (BitVec.ofNat 32 i) (k0_pay8 x0 x1 x2 x6 x9) rows 3456#32 (ix2 ⟨s, hs0⟩ d) * x10 (ix3 0 d c))
          + ∑ d : Fin 48, k0_pay10 (F := Ideal) (BitVec.ofNat 32 i) (k0_pay8 x0 x1 x2 x6 x9) rows 3456#32 (ix2 ⟨2 + s, hs2⟩ d) * x10 (ix3 2 d c))
          * w) 0
      = padRow T.mid (i * 3456 + s - 6) c * w := by
  rw [select_mask i B.lt]
  split
  · rename_i h
    obtain ⟨h1, h2⟩ := h
    simp only [masked_v B, B.wd, B.bd]
    rw [att_row B hT _ c h1 h2, padRow_of_mem T.mid _ c (by simp only at h1 h2; omega)]
    congr 1
    simp only at h1 h2
    have e : (⟨i * 3456 + s - 6 - 1, by omega⟩ : Fin L) = ⟨i * 3456 + (1 + s) - 8, h2⟩ := Fin.ext (by simp only; omega)
    rw [e]
    show _ = T.att _ c + conv T.wd T.bd T.v (i * 3456 + (1 + s) - 8) c
    have e0 : i * 3456 + s - 7 = i * 3456 + (1 + s) - 8 := by omega
    have e1 : i * 3456 + (1 + s) - 7 = i * 3456 + (1 + s) - 8 + 1 := by omega
    have e2 : i * 3456 + (2 + s) - 7 = i * 3456 + (1 + s) - 8 + 2 := by omega
    simp only [e0, e1, e2]
    unfold conv tap
    abel
  · rename_i h
    rw [padRow_of_not_mem T.mid _ c (by simp only [L] at h ⊢; omega), zero_mul]

theorem hz2 : (![0, 0] : Fin 2 → Nat) = fun _ => 0 := by decide
theorem hz3 : (![0, 0, 0] : Fin 3 → Nat) = fun _ => 0 := by decide
theorem hz4 : (![0, 0, 0, 0] : Fin 4 → Nat) = fun _ => 0 := by decide

/-- The body's result at a row of its output block: the result's table at that token. -/
theorem out_row (B : Blocks T i x0 x1 x2 x3 x4 x5 x6 x7 x8 x9 x10 x11 x12 x13) (hT : T.Finite) (co : grid0.Coords) (hco : (co 1).val = i)
    (p : Fin 3456) (o : Fin 48) :
    out0_14 (F := Ideal) co x0 x1 x2 x3 x4 x5 x6 x7 x8 x9 x10 x11 x12 x13 (ix3 0 p o) = T.out (i * 3456 + p.val) o := by
  unfold_out out0_14
  rw [hco]
  rw [View.canon_unit_zero hz3 inb_S1x3456x48_S1x3456x48_0_0_0]
  have l0 : View.ld x0 r0_0 = x0 := View.ld_unit_zero hz3 _ x0
  have l1 : View.ld x1 r0_1 = x1 := View.ld_unit_zero hz4 _ x1
  have l2 : View.ld x2 r0_1 = x2 := View.ld_unit_zero hz4 _ x2
  have l3 : View.ld x3 r0_2 = x3 := View.ld_unit_zero hz3 _ x3
  have l4 : ∀ x : Vec Ideal S144x48 .f32, View.ld x r0_3 = x := View.ld_unit_zero hz2 _
  have l5 : ∀ x : Vec Ideal S1x48 .f32, View.ld x r0_4 = x := View.ld_unit_zero hz2 _
  rw [l0, l1, l2, l3, l4 x4, l4 x5, l4 x6, l5 x7, l5 x8, l5 x9]
  pointwise [k0_pay1, k0_pay14, k0_pay12, k0_pay13]
  have e : ∀ (s : Nat) (hs0 : s < 3472) (hs1 : 1 + s < 3472) (hs2 : 2 + s < 3472) (c : Fin 48) (w : EReal), _ = _ := fun s hs0 hs1 hs2 c w =>
    mid_row B hT s c hs0 hs1 hs2 w
  have hp := p.isLt
  unfold rows at e
  simp only [e, B.wu, B.bu]
  unfold Tables.out conv tap
  have e0 : i * 3456 + (6 + p.val) - 6 = i * 3456 + p.val := by omega
  have e1 : i * 3456 + (7 + p.val) - 6 = i * 3456 + p.val + 1 := by omega
  have e2 : i * 3456 + (8 + p.val) - 6 = i * 3456 + p.val + 2 := by omega
  simp only [e0, e1, e2]

end Cert.KernelIdeal.Body

end
-- ==== Proof.KernelHost.lean ====
/- The arrays that the host operations before the kernel's call make of the arguments, read at an index. -/
module

public import proofs.«01_k».proof.Proof.KernelBody
public import Idealize.ShloMosaic.Lib.Claim
public import Idealize.ShloMosaic.Lib.Pipeline.ValueKit

@[expose] public section

set_option maxRecDepth 16384

noncomputable section

namespace Cert.KernelIdeal.Value

open Idealize.ShloMosaic Idealize.ShloMosaic.TcCoe Cert.KernelIdeal Cert.KernelIdeal.Gen Cert.Region Cert.KernelIdeal.Body

/-- The tokens: the image, laid out by the host operations as rows of 144 channels. -/
def tokens (x : Vec Ideal S2x384x144x144 .f32) : Vec Ideal S2x55296x144 .f32 :=
  shapeCast S2x55296x144 (transpose S2x384x144x144 [0, 2, 1, 3] (shapeCast S2x144x384x144 (shapeCast S2x55296x144
    (transpose S2x384x12x12x12x12 [0, 1, 3, 5, 2, 4] (shapeCast S2x384x12x12x12x12 x shapeCasts_S2x384x144x144_S2x384x12x12x12x12)
      transposes_S2x384x12x12x12x12_S2x384x12x12x12x12_0_1_3_5_2_4) shapeCasts_S2x384x12x12x12x12_S2x55296x144)
    shapeCasts_S2x55296x144_S2x144x384x144) transposes_S2x144x384x144_S2x384x144x144_0_2_1_3) shapeCasts_S2x384x144x144_S2x55296x144

variable (m : (ℓ : Loc nD τ sig) → Buf (Elt Ideal) ℓ) (c : Dev nD)

/-- The tables of batch `b` that the kernel's arguments give. -/
def T (b : Fin 2) : Tables :=
  tables (fun b r k => tokens (m ((c : Thread nD τ).loc main_arg0)) (ix3 b r k)) (fun i k => m ((c : Thread nD τ).loc main_arg1) (ix2 i k))
    (fun i => m ((c : Thread nD τ).loc main_arg2) (ix1 i)) (fun o d t => m ((c : Thread nD τ).loc main_arg3) (ix3 o d t))
    (fun o => m ((c : Thread nD τ).loc main_arg4) (ix1 o)) (fun o d t => m ((c : Thread nD τ).loc main_arg5) (ix3 o d t))
    (fun o => m ((c : Thread nD τ).loc main_arg6) (ix1 o)) b

/-- The call's token array is the tokens. -/
theorem V_v5 : V m c main_v5 = tokens (m ((c : Thread nD τ).loc main_arg0)) := by
  entry_read
  rfl

/-- The tokens in blocks of 3456 rows. -/
def blocked (x : Vec Ideal S2x384x144x144 .f32) : Vec Ideal S2x16x3456x144 .f32 :=
  shapeCast S2x16x3456x144 (tokens x) shapeCasts_S2x55296x144_S2x16x3456x144

/-- Row `p` of block `i` is token `3456 * i + p`. -/
theorem blocked_apply (x : Vec Ideal S2x384x144x144 .f32) (b : Fin 2) (i : Fin 16) (p : Fin 3456) (k : Fin 144) :
    blocked x (ix4 b i p k) = tokens x (ix3 b ⟨i.val * 3456 + p.val, by omega⟩ k) := by
  unfold blocked
  pointwise

/-- The rows before each block are rows 3448 and following of the block before it. -/
theorem V_v9 (b : Fin 2) (i : Fin 16) (p : Fin 8) (k : Fin 144) (h : 0 < i.val) :
    V m c main_v9 (ix4 b i p k)
      = tokens (m ((c : Thread nD τ).loc main_arg0)) (ix3 b ⟨i.val * 3456 + p.val - 8, by omega⟩ k) := by
  have e : V m c main_v9 = concatenate S2x16x8x144 1
      [⟨S2x1x8x144, broadcastInDim S2x1x8x144 ![] bcast_S_S2x1x8x144 (constant (F := Ideal) S_ .f32 0x00000000#32)⟩,
        ⟨S2x15x8x144, extractStridedSlice S2x15x8x144 ![0, 0, 3448, 0] (blocked (m ((c : Thread nD τ).loc main_arg0)))
          slices_S2x16x3456x144_S2x15x8x144_0_0_3448_0⟩] concatenates_S2x1x8x144_S2x15x8x144_S2x16x8x144_d1 := by
    entry_read
    rfl
  rw [e]
  pointwise
  rw [dif_neg (by omega), blocked_apply]
  congr 2
  exact Fin.ext (by show (i.val - 1) * 3456 + (3448 + p.val) = i.val * 3456 + p.val - 8; omega)

/-- The rows after each block are the first rows of the block after it. -/
theorem V_v11 (b : Fin 2) (i : Fin 16) (p : Fin 8) (k : Fin 144) (h : i.val < 15) :
    V m c main_v11 (ix4 b i p k)
      = tokens (m ((c : Thread nD τ).loc main_arg0)) (ix3 b ⟨i.val * 3456 + 3456 + p.val, by omega⟩ k) := by
  have e : V m c main_v11 = concatenate S2x16x8x144 1
      [⟨S2x15x8x144, extractStridedSlice S2x15x8x144 ![0, 1, 0, 0] (blocked (m ((c : Thread nD τ).loc main_arg0)))
          slices_S2x16x3456x144_S2x15x8x144_0_1_0_0⟩,
        ⟨S2x1x8x144, broadcastInDim S2x1x8x144 ![] bcast_S_S2x1x8x144 (constant (F := Ideal) S_ .f32 0x00000000#32)⟩]
        concatenates_S2x15x8x144_S2x1x8x144_S2x16x8x144_d1 := by
    entry_read
    rfl
  rw [e]
  pointwise
  rw [dif_pos h, blocked_apply]
  congr 2
  exact Fin.ext (by show (1 + i.val) * 3456 + p.val = i.val * 3456 + 3456 + p.val; omega)

/-- The first rows of the batch. -/
theorem V_v12 (b : Fin 2) (p : Fin 8) (k : Fin 144) :
    V m c main_v12 (ix3 b p k) = tokens (m ((c : Thread nD τ).loc main_arg0)) (ix3 b ⟨p.val, by omega⟩ k) := by
  have e : V m c main_v12 = extractStridedSlice S2x8x144 ![0, 0, 0] (tokens (m ((c : Thread nD τ).loc main_arg0)))
      slices_S2x55296x144_S2x8x144_0_0_0 := by
    entry_read
    rfl
  rw [e]
  pointwise

/-- The weights of the queries, of the keys and of the values, channels last. -/
theorem V_v14 (k : Fin 144) (d : Fin 48) :
    V m c main_v14 (ix2 k d) = m ((c : Thread nD τ).loc main_arg1) (ix2 ⟨d.val, by omega⟩ k) := by
  have e : V m c main_v14 =
      extractStridedSlice S144x48 ![0, 0] (transpose S144x144 [1, 0] (m ((c : Thread nD τ).loc main_arg1)) transposes_S144x144_S144x144_1_0) slices_S144x144_S144x48_0_0 := by
    entry_read
    rfl
  rw [e]
  pointwise
theorem V_v15 (k : Fin 144) (d : Fin 48) :
    V m c main_v15 (ix2 k d) = m ((c : Thread nD τ).loc main_arg1) (ix2 ⟨48 + d.val, by omega⟩ k) := by
  have e : V m c main_v15 =
      extractStridedSlice S144x48 ![0, 48] (transpose S144x144 [1, 0] (m ((c : Thread nD τ).loc main_arg1)) transposes_S144x144_S144x144_1_0) slices_S144x144_S144x48_0_48 := by
    entry_read
    rfl
  rw [e]
  pointwise
theorem V_v16 (k : Fin 144) (d : Fin 48) :
    V m c main_v16 (ix2 k d) = m ((c : Thread nD τ).loc main_arg1) (ix2 ⟨96 + d.val, by omega⟩ k) := by
  have e : V m c main_v16 =
      extractStridedSlice S144x48 ![0, 96] (transpose S144x144 [1, 0] (m ((c : Thread nD τ).loc main_arg1)) transposes_S144x144_S144x144_1_0) slices_S144x144_S144x48_0_96 := by
    entry_read
    rfl
  rw [e]
  pointwise

/-- The biases of the queries, of the keys and of the values, as rows. -/
theorem V_v18 (d : Fin 48) : V m c main_v18 (ix2 0 d) = m ((c : Thread nD τ).loc main_arg2) (ix1 ⟨d.val, by omega⟩) := by
  have e : V m c main_v18 =
      shapeCast S1x48 (extractStridedSlice S48 ![0] (m ((c : Thread nD τ).loc main_arg2)) slices_S144_S48_0) shapeCasts_S48_S1x48 := by
    entry_read
    rfl
  rw [e]
  pointwise
theorem V_v20 (d : Fin 48) : V m c main_v20 (ix2 0 d) = m ((c : Thread nD τ).loc main_arg2) (ix1 ⟨48 + d.val, by omega⟩) := by
  have e : V m c main_v20 =
      shapeCast S1x48 (extractStridedSlice S48 ![48] (m ((c : Thread nD τ).loc main_arg2)) slices_S144_S48_48) shapeCasts_S48_S1x48 := by
    entry_read
    rfl
  rw [e]
  pointwise
theorem V_v22 (d : Fin 48) : V m c main_v22 (ix2 0 d) = m ((c : Thread nD τ).loc main_arg2) (ix1 ⟨96 + d.val, by omega⟩) := by
  have e : V m c main_v22 =
      shapeCast S1x48 (extractStridedSlice S48 ![96] (m ((c : Thread nD τ).loc main_arg2)) slices_S144_S48_96) shapeCasts_S48_S1x48 := by
    entry_read
    rfl
  rw [e]
  pointwise

/-- The weights of the two convolutions, taps first, and their biases, as rows. -/
theorem V_v23 (t : Fin 3) (d o : Fin 48) : V m c main_v23 (ix3 t d o) = m ((c : Thread nD τ).loc main_arg3) (ix3 o d t) := by
  have e : V m c main_v23 =
      transpose S3x48x48 [2, 1, 0] (m ((c : Thread nD τ).loc main_arg3)) transposes_S48x48x3_S3x48x48_2_1_0 := by
    entry_read
    rfl
  rw [e]
  pointwise
theorem V_v24 (t : Fin 3) (d o : Fin 48) : V m c main_v24 (ix3 t d o) = m ((c : Thread nD τ).loc main_arg5) (ix3 o d t) := by
  have e : V m c main_v24 =
      transpose S3x48x48 [2, 1, 0] (m ((c : Thread nD τ).loc main_arg5)) transposes_S48x48x3_S3x48x48_2_1_0 := by
    entry_read
    rfl
  rw [e]
  pointwise
theorem V_v25 (d : Fin 48) : V m c main_v25 (ix2 0 d) = m ((c : Thread nD τ).loc main_arg4) (ix1 d) := by
  have e : V m c main_v25 =
      shapeCast S1x48 (m ((c : Thread nD τ).loc main_arg4)) shapeCasts_S48_S1x48 := by
    entry_read
    rfl
  rw [e]
  pointwise
theorem V_v26 (d : Fin 48) : V m c main_v26 (ix2 0 d) = m ((c : Thread nD τ).loc main_arg6) (ix1 d) := by
  have e : V m c main_v26 =
      shapeCast S1x48 (m ((c : Thread nD τ).loc main_arg6)) shapeCasts_S48_S1x48 := by
    entry_read
    rfl
  rw [e]
  pointwise

end Cert.KernelIdeal.Value

end
-- ==== Proof.KernelBlocks.lean ====
/- The blocks that the kernel's call reads at each grid point, read at an index. -/
module

public import proofs.«01_k».proof.Proof.KernelHost
public import Idealize.ShloMosaic.Lib.Claim
public import Idealize.ShloMosaic.Lib.Pipeline.ValueKit

@[expose] public section

set_option maxRecDepth 16384

noncomputable section

namespace Cert.KernelIdeal.Value

open Idealize.ShloMosaic Idealize.ShloMosaic.TcCoe Cert.KernelIdeal Cert.KernelIdeal.Gen Cert.Region Cert.KernelIdeal.Body

variable (m : (ℓ : Loc nD τ sig) → Buf (Elt Ideal) ℓ) (c : Dev nD)

/-- Where the windows' blocks lie at grid point `t`: batch `t / 16`, block `t % 16` of the rows; the weights and biases whole. -/
theorem idx0 : ∀ t : Fin cfg0.N, win0_0.index t = ![(grid0.coords t 0).val, (grid0.coords t 1).val, 0] :=
  (by decide +kernel : ∀ t : Fin grid0.N, _)
theorem idx1 : ∀ t : Fin cfg0.N, win0_1.index t = ![(grid0.coords t 0).val, (grid0.coords t 1).val, 0, 0] :=
  (by decide +kernel : ∀ t : Fin grid0.N, _)
theorem idx2 : ∀ t : Fin cfg0.N, win0_2.index t = ![(grid0.coords t 0).val, (grid0.coords t 1).val, 0, 0] :=
  (by decide +kernel : ∀ t : Fin grid0.N, _)
theorem idx3 : ∀ t : Fin cfg0.N, win0_3.index t = ![(grid0.coords t 0).val, 0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0, 0, 0] := (by decide +kernel : ∀ t : Fin grid0.N, _)
theorem idx13 : ∀ t : Fin cfg0.N, win0_13.index t = ![0, 0] := (by decide +kernel : ∀ t : Fin grid0.N, _)
theorem idx14 : ∀ t : Fin cfg0.N, win0_14.index t = ![(grid0.coords t 0).val, (grid0.coords t 1).val, 0] :=
  (by decide +kernel : ∀ t : Fin grid0.N, _)

/-- The batch of grid point `t`. -/
abbrev bat (t : Fin cfg0.N) : Fin 2 := ⟨(grid0.coords t 0).val, (grid0.coords t 0).isLt⟩
/-- The block of rows of grid point `t`. -/
abbrev blkRow (t : Fin cfg0.N) : Fin 16 := ⟨(grid0.coords t 1).val, (grid0.coords t 1).isLt⟩

/-- A block of window `n`, read of any contents of the arrays, is the window's array read at the block's place. -/
theorem read0 (W : (b : Ref sig .tc) → Buf (Elt Ideal) ((c : Thread nD τ).loc b)) (t : Fin cfg0.N) (p : Fin 3456) (k : Fin 144) :
    ((cfg0.win 0).blk t).view.read (Elt Ideal) (W (Pipeline.arrRef spec0 0)) (ix3 0 p k) = W main_v5 (ix3 (bat t) ⟨(blkRow t).val * 3456 + p.val, by have := (blkRow t).isLt; omega⟩ k) := by
  show W main_v5 ((win0_0.blk t).view.emb (ix3 0 p k)) = W main_v5 (ix3 (bat t) ⟨(blkRow t).val * 3456 + p.val, by have := (blkRow t).isLt; omega⟩ k)
  generalize W main_v5 = A
  blk_ext [idx0 t]
theorem read1 (W : (b : Ref sig .tc) → Buf (Elt Ideal) ((c : Thread nD τ).loc b)) (t : Fin cfg0.N) (p : Fin 8) (k : Fin 144) :
    ((cfg0.win 1).blk t).view.read (Elt Ideal) (W (Pipeline.arrRef spec0 1)) (ix4 0 0 p k) = W main_v9 (ix4 (bat t) (blkRow t) p k) := by
  show W main_v9 ((win0_1.blk t).view.emb (ix4 0 0 p k)) = W main_v9 (ix4 (bat t) (blkRow t) p k)
  generalize W main_v9 = A
  blk_ext [idx1 t]
theorem read2 (W : (b : Ref sig .tc) → Buf (Elt Ideal) ((c : Thread nD τ).loc b)) (t : Fin cfg0.N) (p : Fin 8) (k : Fin 144) :
    ((cfg0.win 2).blk t).view.read (Elt Ideal) (W (Pipeline.arrRef spec0 2)) (ix4 0 0 p k) = W main_v11 (ix4 (bat t) (blkRow t) p k) := by
  show W main_v11 ((win0_2.blk t).view.emb (ix4 0 0 p k)) = W main_v11 (ix4 (bat t) (blkRow t) p k)
  generalize W main_v11 = A
  blk_ext [idx2 t]
theorem read3 (W : (b : Ref sig .tc) → Buf (Elt Ideal) ((c : Thread nD τ).loc b)) (t : Fin cfg0.N) (p : Fin 8) (k : Fin 144) :
    ((cfg0.win 3).blk t).view.read (Elt Ideal) (W (Pipeline.arrRef spec0 3)) (ix3 0 p k) = W main_v12 (ix3 (bat t) p k) := by
  show W main_v12 ((win0_3.blk t).view.emb (ix3 0 p k)) = W main_v12 (ix3 (bat t) p k)
  generalize W main_v12 = A
  blk_ext [idx3 t]
theorem read4 (W : (b : Ref sig .tc) → Buf (Elt Ideal) ((c : Thread nD τ).loc b)) (t : Fin cfg0.N) (k : Fin 144) (d : Fin 48) :
    ((cfg0.win 4).blk t).view.read (Elt Ideal) (W (Pipeline.arrRef spec0 4)) (ix2 k d) = W main_v14 (ix2 k d) := by
  show W main_v14 ((win0_4.blk t).view.emb (ix2 k d)) = W main_v14 (ix2 k d)
  generalize W main_v14 = A
  blk_ext [idx4 t]
theorem read5 (W : (b : Ref sig .tc) → Buf (Elt Ideal) ((c : Thread nD τ).loc b)) (t : Fin cfg0.N) (k : Fin 144) (d : Fin 48) :
    ((cfg0.win 5).blk t).view.read (Elt Ideal) (W (Pipeline.arrRef spec0 5)) (ix2 k d) = W main_v15 (ix2 k d) := by
  show W main_v15 ((win0_5.blk t).view.emb (ix2 k d)) = W main_v15 (ix2 k d)
  generalize W main_v15 = A
  blk_ext [idx5 t]
theorem read6 (W : (b : Ref sig .tc) → Buf (Elt Ideal) ((c : Thread nD τ).loc b)) (t : Fin cfg0.N) (k : Fin 144) (d : Fin 48) :
    ((cfg0.win 6).blk t).view.read (Elt Ideal) (W (Pipeline.arrRef spec0 6)) (ix2 k d) = W main_v16 (ix2 k d) := by
  show W main_v16 ((win0_6.blk t).view.emb (ix2 k d)) = W main_v16 (ix2 k d)
  generalize W main_v16 = A
  blk_ext [idx6 t]
theorem read7 (W : (b : Ref sig .tc) → Buf (Elt Ideal) ((c : Thread nD τ).loc b)) (t : Fin cfg0.N) (d : Fin 48) :
    ((cfg0.win 7).blk t).view.read (Elt Ideal) (W (Pipeline.arrRef spec0 7)) (ix2 0 d) = W main_v18 (ix2 0 d) := by
  show W main_v18 ((win0_7.blk t).view.emb (ix2 0 d)) = W main_v18 (ix2 0 d)
  generalize W main_v18 = A
  blk_ext [idx7 t]
theorem read8 (W : (b : Ref sig .tc) → Buf (Elt Ideal) ((c : Thread nD τ).loc b)) (t : Fin cfg0.N) (d : Fin 48) :
    ((cfg0.win 8).blk t).view.read (Elt Ideal) (W (Pipeline.arrRef spec0 8)) (ix2 0 d) = W main_v20 (ix2 0 d) := by
  show W main_v20 ((win0_8.blk t).view.emb (ix2 0 d)) = W main_v20 (ix2 0 d)
  generalize W main_v20 = A
  blk_ext [idx8 t]
theorem read9 (W : (b : Ref sig .tc) → Buf (Elt Ideal) ((c : Thread nD τ).loc b)) (t : Fin cfg0.N) (d : Fin 48) :
    ((cfg0.win 9).blk t).view.read (Elt Ideal) (W (Pipeline.arrRef spec0 9)) (ix2 0 d) = W main_v22 (ix2 0 d) := by
  show W main_v22 ((win0_9.blk t).view.emb (ix2 0 d)) = W main_v22 (ix2 0 d)
  generalize W main_v22 = A
  blk_ext [idx9 t]
theorem read10 (W : (b : Ref sig .tc) → Buf (Elt Ideal) ((c : Thread nD τ).loc b)) (t : Fin cfg0.N) (a : Fin 3) (d o : Fin 48) :
    ((cfg0.win 10).blk t).view.read (Elt Ideal) (W (Pipeline.arrRef spec0 10)) (ix3 a d o) = W main_v23 (ix3 a d o) := by
  show W main_v23 ((win0_10.blk t).view.emb (ix3 a d o)) = W main_v23 (ix3 a d o)
  generalize W main_v23 = A
  blk_ext [idx10 t]
theorem read11 (W : (b : Ref sig .tc) → Buf (Elt Ideal) ((c : Thread nD τ).loc b)) (t : Fin cfg0.N) (d : Fin 48) :
    ((cfg0.win 11).blk t).view.read (Elt Ideal) (W (Pipeline.arrRef spec0 11)) (ix2 0 d) = W main_v25 (ix2 0 d) := by
  show W main_v25 ((win0_11.blk t).view.emb (ix2 0 d)) = W main_v25 (ix2 0 d)
  generalize W main_v25 = A
  blk_ext [idx11 t]
theorem read12 (W : (b : Ref sig .tc) → Buf (Elt Ideal) ((c : Thread nD τ).loc b)) (t : Fin cfg0.N) (a : Fin 3) (d o : Fin 48) :
    ((cfg0.win 12).blk t).view.read (Elt Ideal) (W (Pipeline.arrRef spec0 12)) (ix3 a d o) = W main_v24 (ix3 a d o) := by
  show W main_v24 ((win0_12.blk t).view.emb (ix3 a d o)) = W main_v24 (ix3 a d o)
  generalize W main_v24 = A
  blk_ext [idx12 t]
theorem read13 (W : (b : Ref sig .tc) → Buf (Elt Ideal) ((c : Thread nD τ).loc b)) (t : Fin cfg0.N) (d : Fin 48) :
    ((cfg0.win 13).blk t).view.read (Elt Ideal) (W (Pipeline.arrRef spec0 13)) (ix2 0 d) = W main_v26 (ix2 0 d) := by
  show W main_v26 ((win0_13.blk t).view.emb (ix2 0 d)) = W main_v26 (ix2 0 d)
  generalize W main_v26 = A
  blk_ext [idx13 t]

/-- So the blocks that the call reads are the host operations' arrays read at those places. -/
theorem iblk0 (t : Fin cfg0.N) (p : Fin 3456) (k : Fin 144) : iblk m c 0 t (ix3 0 p k) = V m c main_v5 (ix3 (bat t) ⟨(blkRow t).val * 3456 + p.val, by have := (blkRow t).isLt; omega⟩ k) :=
  read0 c (V m c) t p k
theorem iblk1 (t : Fin cfg0.N) (p : Fin 8) (k : Fin 144) : iblk m c 1 t (ix4 0 0 p k) = V m c main_v9 (ix4 (bat t) (blkRow t) p k) :=
  read1 c (V m c) t p k
theorem iblk2 (t : Fin cfg0.N) (p : Fin 8) (k : Fin 144) : iblk m c 2 t (ix4 0 0 p k) = V m c main_v11 (ix4 (bat t) (blkRow t) p k) :=
  read2 c (V m c) t p k
theorem iblk3 (t : Fin cfg0.N) (p : Fin 8) (k : Fin 144) : iblk m c 3 t (ix3 0 p k) = V m c main_v12 (ix3 (bat t) p k) :=
  read3 c (V m c) t p k
theorem iblk4 (t : Fin cfg0.N) (k : Fin 144) (d : Fin 48) : iblk m c 4 t (ix2 k d) = V m c main_v14 (ix2 k d) :=
  read4 c (V m c) t k d
theorem iblk5 (t : Fin cfg0.N) (k : Fin 144) (d : Fin 48) : iblk m c 5 t (ix2 k d) = V m c main_v15 (ix2 k d) :=
  read5 c (V m c) t k d
theorem iblk6 (t : Fin cfg0.N) (k : Fin 144) (d : Fin 48) : iblk m c 6 t (ix2 k d) = V m c main_v16 (ix2 k d) :=
  read6 c (V m c) t k d
theorem iblk7 (t : Fin cfg0.N) (d : Fin 48) : iblk m c 7 t (ix2 0 d) = V m c main_v18 (ix2 0 d) :=
  read7 c (V m c) t d
theorem iblk8 (t : Fin cfg0.N) (d : Fin 48) : iblk m c 8 t (ix2 0 d) = V m c main_v20 (ix2 0 d) :=
  read8 c (V m c) t d
theorem iblk9 (t : Fin cfg0.N) (d : Fin 48) : iblk m c 9 t (ix2 0 d) = V m c main_v22 (ix2 0 d) :=
  read9 c (V m c) t d
theorem iblk10 (t : Fin cfg0.N) (a : Fin 3) (d o : Fin 48) : iblk m c 10 t (ix3 a d o) = V m c main_v23 (ix3 a d o) :=
  read10 c (V m c) t a d o
theorem iblk11 (t : Fin cfg0.N) (d : Fin 48) : iblk m c 11 t (ix2 0 d) = V m c main_v25 (ix2 0 d) :=
  read11 c (V m c) t d
theorem iblk12 (t : Fin cfg0.N) (a : Fin 3) (d o : Fin 48) : iblk m c 12 t (ix3 a d o) = V m c main_v24 (ix3 a d o) :=
  read12 c (V m c) t a d o
theorem iblk13 (t : Fin cfg0.N) (d : Fin 48) : iblk m c 13 t (ix2 0 d) = V m c main_v26 (ix2 0 d) :=
  read13 c (V m c) t d

end Cert.KernelIdeal.Value

end
-- ==== Proof.KernelValue.lean ====
/- What the kernel's program leaves in its result: the array that the call writes, and the host operations after it. -/
module

public import proofs.«01_k».proof.Proof.KernelBlocks
public import Idealize.ShloMosaic.Lib.Claim
public import Idealize.ShloMosaic.Lib.Pipeline.ValueKit

@[expose] public section

set_option maxRecDepth 16384

noncomputable section

namespace Cert.KernelIdeal.Value

open Idealize.SL Idealize.SL.RA Idealize.SL.Sem Idealize.ShloMosaic
open Idealize.ShloMosaic.Pipeline (Dat)
open Idealize.ShloMosaic.TcCoe Cert.KernelIdeal Cert.KernelIdeal.Gen Cert.Region Cert.KernelIdeal.Body

variable (m : (ℓ : Loc nD τ sig) → Buf (Elt Ideal) ℓ) (c : Dev nD)

/-- At every grid point the blocks hold what the body's lemmas ask of them, for the tables of the point's batch. -/
theorem blocks (t : Fin cfg0.N) :
    Blocks (T m c (bat t)) (blkRow t).val (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) (iblk m c 12 t) (iblk m c 13 t) where
  lt := (blkRow t).isLt
  own p k _ := (iblk0 m c t p k).trans (congrFun (V_v5 m c) _)
  before p k _ h := (iblk1 m c t p k).trans (V_v9 m c _ _ p k h)
  after p k _ h := (iblk2 m c t p k).trans (V_v11 m c _ _ p k h)
  first p k _ := (iblk3 m c t p k).trans (V_v12 m c _ p k)
  wq k d := (iblk4 m c t k d).trans (V_v14 m c k d)
  wk k d := (iblk5 m c t k d).trans (V_v15 m c k d)
  wv k d := (iblk6 m c t k d).trans (V_v16 m c k d)
  bq d := (iblk7 m c t d).trans (V_v18 m c d)
  bk d := (iblk8 m c t d).trans (V_v20 m c d)
  bv d := (iblk9 m c t d).trans (V_v22 m c d)
  wd a d o := (iblk10 m c t a d o).trans (V_v23 m c a d o)
  bd d := (iblk11 m c t d).trans (V_v25 m c d)
  wu a d o := (iblk12 m c t a d o).trans (V_v24 m c a d o)
  bu d := (iblk13 m c t d).trans (V_v26 m c d)

/-- The array that the call writes: each batch's result table. -/
def result : Vec Ideal S2x55296x48 .f32 := fun j => (T m c (j 0)).out (j 1).val (j 2)

/-- After the call its output array holds the result tables. -/
theorem arr (hT : ∀ b, (T m c b).Finite) : (dats m 0 c).arrAt 14 cfg0.N = result m c := by
  refine (dats m 0 c).arrAt_eq_of_covers 14 _ (by decide +kernel) fun t hf y => ?_
  blk_simp
  rw [after0_14]
  idx_vars y
  obtain rfl : y0 = 0 := Subsingleton.elim _ _
  have e : (win0_14.blk t).view.emb (ix3 0 y1 y2)
      = ix3 (bat t) ⟨(blkRow t).val * 3456 + y1.val, by have := (blkRow t).isLt; have := y1.isLt; omega⟩ y2 := by
    blk_ext [idx14 t]
  show _ = result m c ((win0_14.blk t).view.emb (ix3 0 y1 y2))
  rw [e]
  exact out_row (blocks m c t) (hT (bat t)) (grid0.coords t) rfl y1 y2

/-- The result laid out as an image by the host operations after the call. -/
def image (y : Vec Ideal S2x55296x48 .f32) : Vec Ideal S2x128x144x144 .f32 :=
  shapeCast S2x128x144x144 (transpose S2x144x128x144 [0, 2, 1, 3] (shapeCast S2x128x144x144 y shapeCasts_S2x55296x48_S2x128x144x144)
    transposes_S2x128x144x144_S2x144x128x144_0_2_1_3) shapeCasts_S2x144x128x144_S2x128x144x144

/-- The host operations after the call lay out what the call left in its output array. -/
theorem tail (dats : (p : Fin _) → (c : Dev nD) → Dat τ (Elt Ideal) Unit ℕ (UR sig nD τ) ℕ (cfgs p) c) :
    Pipeline.afterTail₀ cfgs dats 0 (V0 m) [hostOps1] c main_v30 = image ((dats 0 c).arrAt 14 cfg0.N) := by
  unfold Pipeline.afterTail₀
  have e : Pipeline.withArrays spec0 c (V0 m c) (fun w => (dats 0 c).arrAt w cfg0.N) (Proc.devRef .tc main_v27)
      = (dats 0 c).arrAt 14 cfg0.N :=
    Pipeline.withArrays_arr spec0 (by decide) c (V0 m c) (fun w => (dats 0 c).arrAt w cfg0.N) 14
  generalize V0 m c = V₀ at e ⊢
  show StableHlo.after hostOps1 (Pipeline.withArrays spec0 c V₀ fun w => (dats 0 c).arrAt w cfg0.N) (Proc.devRef .tc main_v30) = _
  generalize (Pipeline.withArrays spec0 c V₀ fun w => (dats 0 c).arrAt w cfg0.N) = U at e ⊢
  generalize (dats 0 c).arrAt 14 cfg0.N = y at e ⊢
  subst e
  unfold hostOps1
  after_results
  rfl

variable (ρ : Dev nD → PrngReg)

/-- The kernel's program ends with the result tables, laid out as an image, in its result, and its arguments unchanged. -/
theorem run (hT : ∀ c b, (T m c b).Finite) : θ_run defs (onTc (τ := τ) (main (F := Ideal))) ⟨m, fun _ => 0, ρ⟩ (fun r => ∀ c : Dev nD,
      r.2.mem ((c.tc : Thread nD τ).loc main_v30) = image (result m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v30 (Pipeline.mem_restRefs_of main_v30 (by decide) (by decide))).trans
        ((tail m c (dats m)).trans (congrArg image (arr m c (hT c)))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Value

end
-- ==== Proof.RefTake.lean ====
module

public import proofs.«01_k».proof.Proof.Spec
public import proofs.«01_k».proof.Proof.Gen.ReferenceIdeal.Read
public import Idealize.ShloMosaic.Lib.Pointwise
public import Idealize.ShloMosaic.Lib.SortFacts

/-!
# The reference's choice of regions

The reference ranks the two regions with a top-k of two out of two and fetches the chosen rows of
the keys and the values. Whatever the scores are, the top-k lists each of the two regions once, so
the indices are a permutation of `{0, 1}`, and they are in range, so the fetch reads exactly the
rows they name.
-/

@[expose] public section

set_option maxRecDepth 16384

noncomputable section

namespace Cert.ReferenceIdeal.Value

open Idealize.ShloMosaic Idealize.ShloMosaic.TcCoe Cert.ReferenceIdeal Cert.ReferenceIdeal.Gen Cert.ReferenceIdeal.Read Cert.Region

variable (x0 : Vec Ideal S2x384x144x144 .f32) (x1 : Vec Ideal S144x144 .f32) (x2 : Vec Ideal S144 .f32)

/-- The region in place `j` of the ranking of the two regions for region `b`: the positions sorted
by decreasing score. -/
def order (b : Fin 2) : Fin 2 → Fin 2 :=
  sortedFrom fun k k' => FloatOps.cmpfTotal (F := Ideal) (φ := .f32) .gt
    (val_main_v21 (F := Ideal) x0 x1 x2 (ix2 b k)) (val_main_v21 (F := Ideal) x0 x1 x2 (ix2 b k')) == 1#1

/-- The ranking lists two different regions. -/
theorem order_ne (b : Fin 2) : order x0 x1 x2 b 0 ≠ order x0 x1 x2 b 1 := fun h =>
  absurd (sortedFrom_injective _ h) (by decide)

/-- The top-k's index in place `j` is the number of the region the ranking puts there. -/
theorem indices_apply (b j : Fin 2) :
    val_main_indices (F := Ideal) x0 x1 x2 (ix2 b j) = BitVec.ofNat 32 (order x0 x1 x2 b j).val := by
  have along (p : 1 < S2x2.rank) (k : Fin 2) : Shape.Idx.along (s := S2x2) (ix2 b j) ⟨1, p⟩ k = ix2 b k := by
    funext a; match a with | 0 => rfl | 1 => rfl
  unfold val_main_indices order Host.topK
  pointwise
  unfold Host.sort2
  simp only [show (1 : ℕ) < S2x2.rank from by decide, ↓reduceDIte]
  refine congrArg (fun k : Fin 2 => BitVec.ofNat 32 k.val) ?_
  show sortedFrom _ j = sortedFrom _ j
  exact congrFun (congrArg sortedFrom (funext fun k => funext fun k' => congrArg₂
    (fun p q => FloatOps.cmpfTotal (F := Ideal) (φ := .f32) .gt (val_main_v21 (F := Ideal) x0 x1 x2 p)
      (val_main_v21 (F := Ideal) x0 x1 x2 q) == 1#1) (along _ k) (along _ k'))) j

/-- The dimensions of the fetch. -/
abbrev fetch : GatherDims S2x55296x48 S2x2x48x1 S2x2x48 :=
  gather_S2x55296x48_S2x2x48x1_S2x2x48_n_1_02_02_1_3_111

/-- The fetch reads its indices at the result's own coordinates. -/
theorem siCoord_val (i : S2x2x48.Idx) (k : Fin 3) (hk : k.castSucc ∈ fetch.siKept) :
    (fetch.siCoord i k.castSucc hk).val = (i k).val := by
  match k with
  | 0 => rfl
  | 1 => rfl
  | 2 => rfl

/-- Fetching along the rows: entry `(b, j, c)` is the operand's entry at row `I (b, j, c)`, read as
a signed number and clamped to the rows there are. -/
theorem gather_apply (X : Vec Ideal S2x55296x48 .f32) (I : IVec S2x2x48x1 32) (b j : Fin 2) (c : Fin 48) :
    Host.gather fetch X I (ix3 b j c)
      = X (ix3 b ⟨min (I (ix4 b j c 0)).toInt.toNat 55295, by omega⟩ c) := by
  have hs (p) : fetch.siIdx (ix3 b j c) ⟨0, p⟩ = ix4 b j c 0 := by
    funext a; match a with
    | 0 => exact Fin.ext (siCoord_val (ix3 b j c) 0 (by decide))
    | 1 => exact Fin.ext (siCoord_val (ix3 b j c) 1 (by decide))
    | 2 => exact Fin.ext (siCoord_val (ix3 b j c) 2 (by decide))
    | 3 => rfl
  refine congrArg X (funext fun a => Fin.ext ?_)
  show fetch.start (ix3 b j c) I a + fetch.batchCoord (ix3 b j c) a + fetch.offCoord (ix3 b j c) a = _
  rw [fetch.offCoord_eq_zero _ _ (by revert a; decide)]
  match a with
  | 0 =>
    rw [fetch.start_batching _ _ _ (by decide), GatherDims.batchCoord, dif_pos (by decide)]
    exact (Nat.zero_add _).trans (siCoord_val (ix3 b j c) 0 (by decide))
  | 1 =>
    rw [fetch.batchCoord_eq_zero _ _ (by decide), GatherDims.start, dif_pos (by decide)]
    exact congrArg (fun p => min (I p).toInt.toNat 55295) (hs (by decide))
  | 2 =>
    rw [fetch.start_batching _ _ _ (by decide), GatherDims.batchCoord, dif_pos (by decide)]
    exact (Nat.zero_add _).trans (siCoord_val (ix3 b j c) 2 (by decide))

/-- A region's number, as the fetch adjusts it (a negative index would count from the end) and
clamps it, is the region's row. -/
theorem row_of_region (s : Fin 2) :
    Scalar.select (IntOp.cmpi CmpIPredicate.slt (BitVec.ofNat 32 s.val) 0#32)
      (IntOp.addi (BitVec.ofNat 32 s.val) 55296#32) (BitVec.ofNat 32 s.val) = BitVec.ofNat 32 s.val := by
  revert s; decide

/-- A region's number is within the rows, so the fetch does not replace the row it reads. -/
theorem in_range (s : Fin 2) (x y : EReal) :
    Scalar.select (IntOp.andi (IntOp.andi (IntOp.cmpi CmpIPredicate.sge (BitVec.ofNat 32 s.val) 0#32)
      (IntOp.cmpi CmpIPredicate.sle (BitVec.ofNat 32 s.val) 55295#32)) 1#1) x y = x := by
  match s with
  | 0 => rfl
  | 1 => rfl

/-- The row the clamped number of a region names is the region's row. -/
theorem clamp_region (s : Fin 2) (h) :
    (⟨min (BitVec.ofNat 32 s.val).toInt.toNat 55295, h⟩ : Fin 55296) = ⟨s.val, by omega⟩ := by
  match s with
  | 0 => rfl
  | 1 => rfl

/-- The index the fetch of the keys uses at `(b, j, c)` is the number of the region in place `j`. -/
theorem key_index (b j : Fin 2) (c : Fin 48) :
    val_main_call0_v5 (F := Ideal) x0 x1 x2 (ix4 b j c 0) = BitVec.ofNat 32 (order x0 x1 x2 b j).val := by
  pointwise [val_main_call0_v5, val_main_call0_v4, val_main_call0_v3, val_main_call0_v2, val_main_call0_v1, val_main_call0_v0, val_main_call0_c, val_main_call0_c_0, val_main_v22,
    val_main_v23, indices_apply x0 x1 x2 b j, row_of_region]

/-- The fetched keys: row `j` for region `b` is the key row of the region in place `j`. -/
theorem key_apply (b j : Fin 2) (c : Fin 48) :
    val_main_v24 (F := Ideal) x0 x1 x2 (ix3 b j c)
      = val_main_v12 (F := Ideal) x0 x1 x2 (ix3 b ⟨(order x0 x1 x2 b j).val, by omega⟩ c) := by
  have hg : val_main_call0_v13 (F := Ideal) x0 x1 x2 (ix3 b j c)
      = val_main_v12 (F := Ideal) x0 x1 x2 (ix3 b ⟨(order x0 x1 x2 b j).val, by omega⟩ c) := by
    refine (gather_apply _ _ b j c).trans ?_
    simp only [key_index, clamp_region]
  rw [← hg]
  pointwise [val_main_v24, val_main_call0_v12, val_main_call0_v11, val_main_call0_v10, val_main_call0_v9,
    val_main_call0_v8, val_main_call0_v7, val_main_call0_v6, val_main_call0_c_1, val_main_call0_c_2,
    val_main_call0_c_3]
  rw [Finset.univ_unique, Finset.fold_singleton, show (default : Fin 1) = 0 from rfl, key_index]
  exact in_range _ _ _

/-- The index the fetch of the values uses at `(b, j, c)` is the number of the region in place `j`. -/
theorem value_index (b j : Fin 2) (c : Fin 48) :
    val_main_call1_v5 (F := Ideal) x0 x1 x2 (ix4 b j c 0) = BitVec.ofNat 32 (order x0 x1 x2 b j).val := by
  pointwise [val_main_call1_v5, val_main_call1_v4, val_main_call1_v3, val_main_call1_v2, val_main_call1_v1, val_main_call1_v0, val_main_call1_c, val_main_call1_c_0, val_main_v22,
    val_main_v23, indices_apply x0 x1 x2 b j, row_of_region]

/-- The fetched values: row `j` for region `b` is the value row of the region in place `j`. -/
theorem value_apply (b j : Fin 2) (c : Fin 48) :
    val_main_v25 (F := Ideal) x0 x1 x2 (ix3 b j c)
      = val_main_v13 (F := Ideal) x0 x1 x2 (ix3 b ⟨(order x0 x1 x2 b j).val, by omega⟩ c) := by
  have hg : val_main_call1_v13 (F := Ideal) x0 x1 x2 (ix3 b j c)
      = val_main_v13 (F := Ideal) x0 x1 x2 (ix3 b ⟨(order x0 x1 x2 b j).val, by omega⟩ c) := by
    refine (gather_apply _ _ b j c).trans ?_
    simp only [value_index, clamp_region]
  rw [← hg]
  pointwise [val_main_v25, val_main_call1_v12, val_main_call1_v11, val_main_call1_v10, val_main_call1_v9,
    val_main_call1_v8, val_main_call1_v7, val_main_call1_v6, val_main_call1_c_1, val_main_call1_c_2,
    val_main_call1_c_3]
  rw [Finset.univ_unique, Finset.fold_singleton, show (default : Fin 1) = 0 from rfl, value_index]
  exact in_range _ _ _

end Cert.ReferenceIdeal.Value

end
-- ==== Proof.RefValue.lean ====
module

public import proofs.«01_k».proof.Proof.RefTake
public import Idealize.ShloMosaic.Lib.KernelVsHost

/-!
# The reference's result

The reference's stages, read entry by entry, are the problem's tables.
-/

@[expose] public section

set_option maxRecDepth 16384

noncomputable section

namespace Cert.ReferenceIdeal.Value

open Idealize.ShloMosaic Idealize.ShloMosaic.TcCoe Cert.ReferenceIdeal Cert.ReferenceIdeal.Gen Cert.ReferenceIdeal.Read Cert.Region

variable (x0 : Vec Ideal S2x384x144x144 .f32) (x1 : Vec Ideal S144x144 .f32) (x2 : Vec Ideal S144 .f32)
  (x3 : Vec Ideal S48x48x3 .f32) (x4 : Vec Ideal S48 .f32) (x5 : Vec Ideal S48x48x3 .f32) (x6 : Vec Ideal S48 .f32)

/-- The problem's tables for batch `b`, from the reference's arguments. -/
def T (b : Fin 2) : Tables :=
  tables (fun b r k => val_main_v5 (F := Ideal) x0 (ix3 b r k)) (fun i k => x1 (ix2 i k)) (fun i => x2 (ix1 i))
    (fun o d t => x3 (ix3 o d t)) (fun o => x4 (ix1 o)) (fun o d t => x5 (ix3 o d t)) (fun o => x6 (ix1 o)) b

/-- The reference's queries. -/
theorem q_apply (b : Fin 2) (r : Fin 55296) (c : Fin 48) :
    val_main_v11 (F := Ideal) x0 x1 x2 (ix3 b r c) = (T x0 x1 x2 x3 x4 x5 x6 b).q r c := by
  pointwise [val_main_v11, val_main_v10, val_main_v9, val_main_v8, val_main_v7, val_main_v6]
  rfl

/-- The reference's keys. -/
theorem k_apply (b : Fin 2) (r : Fin 55296) (c : Fin 48) :
    val_main_v12 (F := Ideal) x0 x1 x2 (ix3 b r c) = (T x0 x1 x2 x3 x4 x5 x6 b).k r c := by
  pointwise [val_main_v12, val_main_v10, val_main_v9, val_main_v8, val_main_v7, val_main_v6]
  rfl

/-- The reference's values. -/
theorem v_apply (b : Fin 2) (r : Fin 55296) (c : Fin 48) :
    val_main_v13 (F := Ideal) x0 x1 x2 (ix3 b r c) = (T x0 x1 x2 x3 x4 x5 x6 b).v r c := by
  pointwise [val_main_v13, val_main_v10, val_main_v9, val_main_v8, val_main_v7, val_main_v6]
  rfl

/-- The reference's scores. -/
theorem score_apply (b : Fin 2) (r : Fin 55296) (j : Fin 2) :
    val_main_v27 (F := Ideal) x0 x1 x2 (ix3 b r j)
      = ∑ d : Fin 48, (T x0 x1 x2 x3 x4 x5 x6 b).q r d
          * (T x0 x1 x2 x3 x4 x5 x6 b).k (Tables.region (order x0 x1 x2 b j)) d := by
  pointwise [val_main_v27, val_main_v26]
  simp only [key_apply, q_apply x0 x1 x2 x3 x4 x5 x6, k_apply x0 x1 x2 x3 x4 x5 x6]
  rfl

/-- The word the reference's maximum starts from is minus infinity. -/
theorem start_bot : (Ideal.ofBits .f32 4286578688#32 : EReal) = ⊥ := by
  simp [Ideal.ofBits, Ideal.ieee]

/-- The maximum the reference takes of two scores is the greater of the two. -/
theorem max_two (s : Fin 2 → EReal) :
    max (Ideal.ofBits .f32 4286578688#32) (Finset.fold max (Ideal.ofBits .f32 4286578688#32) s Finset.univ)
      = max (s 0) (s 1) := by
  rw [start_bot, show (Finset.univ : Finset (Fin 2)) = {0, 1} from rfl, Finset.fold_insert (by decide),
    Finset.fold_singleton]
  simp

/-- The reference's attention: its softmax over the two regions in the order of the ranking is the
softmax over the two regions. -/
theorem att_apply (b : Fin 2) (r : Fin 55296) (c : Fin 48) :
    val_main_v39 (F := Ideal) x0 x1 x2 (ix3 b r c) = (T x0 x1 x2 x3 x4 x5 x6 b).att r c := by
  refine Eq.trans ?_ (attend_perm (fun j => ∑ d : Fin 48, (T x0 x1 x2 x3 x4 x5 x6 b).q r d
    * (T x0 x1 x2 x3 x4 x5 x6 b).k (Tables.region j) d)
    (fun j => (T x0 x1 x2 x3 x4 x5 x6 b).v (Tables.region j) c) _ (order_ne x0 x1 x2 b))
  pointwise [val_main_v39, val_main_v38, val_main_v37, val_main_v36, val_main_v35, val_main_v34, val_main_v33,
    val_main_v32, val_main_v31, val_main_v30, val_main_v29, val_main_v28, val_main_cst_3, val_main_cst_4, val_main_cst_5]
  simp only [max_two, score_apply x0 x1 x2 x3 x4 x5 x6, value_apply, v_apply x0 x1 x2 x3 x4 x5 x6, attend,
    Fin.sum_univ_two]
  rfl

/-- An array that holds the table `f` in batch `b`, with the word zero put before and after its rows, is the table with a
row of zeros on either side. -/
theorem padded (X : Vec Ideal S2x55296x48 .f32) (f : Fin L → Fin 48 → EReal) (b : Fin 2)
    (hX : ∀ (r : Fin 55296) (c : Fin 48), X (ix3 b r c) = f r c) (r : Fin 55298) (c : Fin 48) :
    (if h : 1 ≤ r.val ∧ r.val - 1 < 55296 then X (ix3 b ⟨r.val - 1, h.2⟩ c) else FloatOps.sitofp (F := Ideal) FTy.f32 0#32)
      = padRow f r.val c := by
  unfold padRow
  by_cases h : 1 ≤ r.val ∧ r.val - 1 < 55296
  · rw [dif_pos h, dif_pos ⟨h.1, by have := h.2; simp only [L]; omega⟩, hX]
  · rw [dif_neg h, dif_neg (fun h' => h ⟨h'.1, by have := h'.2; simp only [L] at this; omega⟩)]
    exact sitofp_zero (φ := .f32)

/-- The values with a row of zeros on either side. -/
theorem pad_v_apply (b : Fin 2) (r : Fin 55298) (c : Fin 48) :
    val_main_v40 (F := Ideal) x0 x1 x2 (ix3 b r c) = padRow (T x0 x1 x2 x3 x4 x5 x6 b).v r.val c := by
  pointwise [val_main_v40, val_main_call2_v0, val_main_c]
  exact padded _ _ b (v_apply x0 x1 x2 x3 x4 x5 x6 b) r c

/-- The down convolution of the values. -/
theorem down_apply (b : Fin 2) (r : Fin 55296) (o : Fin 48) :
    val_main_v60 (F := Ideal) x0 x1 x2 x3 x4 (ix3 b r o)
      = conv (T x0 x1 x2 x3 x4 x5 x6 b).wd (T x0 x1 x2 x3 x4 x5 x6 b).bd (T x0 x1 x2 x3 x4 x5 x6 b).v r.val o := by
  pointwise [val_main_v60, val_main_v59, val_main_v58, val_main_v57, val_main_v56, val_main_v55, val_main_v54,
    val_main_v53, val_main_v52, val_main_v51, val_main_v50, val_main_v49, val_main_v48, val_main_v47, val_main_v46,
    val_main_v45, val_main_v44, val_main_v43, val_main_v42, val_main_v41]
  simp only [pad_v_apply x0 x1 x2 x3 x4 x5 x6, Nat.add_comm 1, Nat.add_comm 2]
  rfl

/-- The attention plus the down convolution. -/
theorem mid_apply (b : Fin 2) (r : Fin 55296) (c : Fin 48) :
    val_main_v61 (F := Ideal) x0 x1 x2 x3 x4 (ix3 b r c) = (T x0 x1 x2 x3 x4 x5 x6 b).mid r c := by
  pointwise [val_main_v61]
  rw [att_apply x0 x1 x2 x3 x4 x5 x6, down_apply x0 x1 x2 x3 x4 x5 x6]
  rfl

/-- The former with a row of zeros on either side. -/
theorem pad_mid_apply (b : Fin 2) (r : Fin 55298) (c : Fin 48) :
    val_main_v62 (F := Ideal) x0 x1 x2 x3 x4 (ix3 b r c) = padRow (T x0 x1 x2 x3 x4 x5 x6 b).mid r.val c := by
  pointwise [val_main_v62, val_main_call3_v0, val_main_c_6]
  exact padded _ _ b (mid_apply x0 x1 x2 x3 x4 x5 x6 b) r c

/-- The up convolution, the reference's result before it is laid out as an image. -/
theorem out_apply (b : Fin 2) (r : Fin 55296) (o : Fin 48) :
    val_main_v82 (F := Ideal) x0 x1 x2 x3 x4 x5 x6 (ix3 b r o) = (T x0 x1 x2 x3 x4 x5 x6 b).out r.val o := by
  pointwise [val_main_v82, val_main_v81, val_main_v80, val_main_v79, val_main_v78, val_main_v77, val_main_v76,
    val_main_v75, val_main_v74, val_main_v73, val_main_v72, val_main_v71, val_main_v70, val_main_v69, val_main_v68,
    val_main_v67, val_main_v66, val_main_v65, val_main_v64, val_main_v63]
  simp only [pad_mid_apply x0 x1 x2 x3 x4 x5 x6, Nat.add_comm 1, Nat.add_comm 2]
  rfl

/-- The whole table of results before it is laid out as an image. -/
theorem table_eq :
    val_main_v82 (F := Ideal) x0 x1 x2 x3 x4 x5 x6
      = fun j => (T x0 x1 x2 x3 x4 x5 x6 (j 0)).out (j 1).val (j 2) := by
  funext j
  have hj : j = ix3 (j 0) (j 1) (j 2) := by
    funext a; match a with | 0 => rfl | 1 => rfl | 2 => rfl
  exact (congrArg _ hj).trans (out_apply x0 x1 x2 x3 x4 x5 x6 (j 0) (j 1) (j 2))

end Cert.ReferenceIdeal.Value

end
-- ==== Proof.Finite.lean ====
/- What the precondition gives: where the printed predicate holds, every element of the image, and of the joint weights and
   biases in the channels of the queries and the keys, is a real number, so the tokens are real and with them the queries
   and the keys. -/
module

public import proofs.«01_k».proof.Defs
public import proofs.«01_k».proof.Proof.KernelHost
public import Idealize.ShloMosaic.Lib.ReduceAll
public import Idealize.ShloMosaic.Lib.Pointwise

@[expose] public section

set_option maxRecDepth 16384

noncomputable section

namespace Cert.Pre_finite

open Idealize.ShloMosaic

/-- The shape facts the precondition's operations take. -/
theorem facts : Facts where
  bcast_S_S2x384x144x144 := by decide
  reducesTo_S2x384x144x144_S_d0_1_2_3 := by decide
  h_S_ := by decide
  slices_S144x144_S96x144_0_0 := by decide
  bcast_S_S96x144 := by decide
  reducesTo_S96x144_S_d0_1 := by decide
  slices_S144_S96_0 := by decide
  bcast_S_S96 := by decide
  reducesTo_S96_S_d0 := by decide

/-- A value whose absolute value compares less than plus infinity is a real number. -/
theorem real_of_olt (x : EReal)
    (h : Ideal.cmp .olt (max x (-x)) (Ideal.ofBits .f32 0x7F800000#32) = 1#1) : ∃ a : ℝ, x = (a : EReal) := by
  have htop : Ideal.ofBits .f32 0x7F800000#32 = ⊤ := by simp [Ideal.ofBits, Ideal.ieee]
  rw [htop] at h
  induction x with
  | bot => simp [Ideal.cmp] at h
  | top => simp [Ideal.cmp] at h
  | coe a => exact ⟨a, rfl⟩

/-- One conjunct of the precondition: an array whose elements all compare less than plus infinity in absolute value holds
    real numbers. -/
theorem real_of_all {s : Shape} {axes : List (Fin s.rank)} (x : FVec Ideal s .f32) (hb : S_.BroadcastsInDim s (![] : Fin 0 → Fin s.rank))
    (h : s.ReducesTo axes S_) (hu : 0 < S_.numel) (j : S_.Idx)
    (e : Host.reduce IntOp.andi (cmpf .olt (Host.absf x) (broadcastInDim s ![] hb (constant (F := Ideal) S_ .f32 0x7F800000#32)))
      (constantI S_ 1 1#1) h hu j = 1#1) (i : s.Idx) : ∃ a : ℝ, x i = (a : EReal) := by
  have : Subsingleton S_.Idx := ⟨fun a b => funext fun k => k.elim0⟩
  exact real_of_olt (x i) (Host.reduce_andi_all _ _ h hu j e i)

/-- Two truth values whose conjunction is true are both true. -/
theorem and_one (a b : BitVec 1) (h : IntOp.andi a b = 1#1) : a = 1#1 ∧ b = 1#1 := by
  revert a b; decide

variable [Facts]
open Facts

/-- The precondition's predicate says that the image holds real numbers, and so do the joint weights and biases in the
    first 96 channels, those of the queries and the keys. -/
theorem real_of_fn (x0 : FVec Ideal S2x384x144x144 .f32) (x1 : FVec Ideal S144x144 .f32) (x2 : FVec Ideal S144 .f32)
    (x3 : FVec Ideal S48x48x3 .f32) (x4 : FVec Ideal S48 .f32) (x5 : FVec Ideal S48x48x3 .f32) (x6 : FVec Ideal S48 .f32)
    (h : fn (F := Ideal) x0 x1 x2 x3 x4 x5 x6 = fun _ => 1#1) :
    (∀ i, ∃ a : ℝ, x0 i = (a : EReal)) ∧ (∀ i k : Fin 144, i.val < 96 → ∃ a : ℝ, x1 (ix2 i k) = (a : EReal))
      ∧ ∀ i : Fin 144, i.val < 96 → ∃ a : ℝ, x2 (ix1 i) = (a : EReal) := by
  have h0 := congrFun h (fun k => k.elim0)
  obtain ⟨h01, h2⟩ := and_one _ _ h0
  obtain ⟨h0, h1⟩ := and_one _ _ h01
  refine ⟨real_of_all x0 _ _ _ _ h0, fun i k hi => ?_, fun i hi => ?_⟩
  · obtain ⟨a, ha⟩ := real_of_all _ _ _ _ _ h1 (ix2 ⟨i.val, hi⟩ k)
    refine ⟨a, Eq.trans ?_ ha⟩
    pointwise
  · obtain ⟨a, ha⟩ := real_of_all _ _ _ _ _ h2 (ix1 ⟨i.val, hi⟩)
    refine ⟨a, Eq.trans ?_ ha⟩
    pointwise

end Cert.Pre_finite

namespace Cert.KernelIdeal.Value

open Idealize.ShloMosaic Cert.KernelIdeal Cert.KernelIdeal.Gen Cert.Region

/-- Every element of the tokens is an element of the image. -/
theorem tokens_mem (x : Vec Ideal S2x384x144x144 .f32) (j : S2x55296x144.Idx) : ∃ i, tokens x j = x i := ⟨_, rfl⟩

/-- Under the precondition the tables of every batch have real queries and keys. -/
theorem finite [Cert.Pre_finite.Facts] (m : (ℓ : Loc nD τ sig) → Buf (Elt Ideal) ℓ) (h : Cert.Pre_KernelIdeal_finite m)
    (c : Dev nD) (b : Fin 2) : (T m c b).Finite := by
  obtain ⟨hx, hw, hβ⟩ := Cert.Pre_finite.real_of_fn _ _ _ _ _ _ _ (h c)
  refine tables_finite _ _ _ _ _ _ _ b (fun b r k => ?_) (fun i k hi => hw i k hi) (fun i hi => hβ i hi)
  obtain ⟨i, hi⟩ := tokens_mem (m ((c.tc : Thread nD τ).loc main_arg0)) (ix3 b r k)
  obtain ⟨a, ha⟩ := hx i
  exact ⟨a, hi.trans ha⟩

end Cert.KernelIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KernelValue
public import proofs.«01_k».proof.Proof.RefValue
public import proofs.«01_k».proof.Proof.Finite
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem

/-- The reference's run leaves its arguments unchanged, and it has no semaphore. -/
theorem reference_frame : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's result on the kernel's arguments is the kernel's result: both are the problem's tables, laid out as an
    image in the same way. -/
theorem value_eq (m : (ℓ : Loc Cert.KernelIdeal.nD Cert.KernelIdeal.τ Cert.KernelIdeal.sig) → Buf (Elt Ideal) ℓ) (c : Dev Cert.KernelIdeal.nD) :
    Cert.ReferenceIdeal.Read.val_main_v85 (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
      = Cert.KernelIdeal.Value.image (Cert.KernelIdeal.Value.result m c) :=
  congrArg Cert.KernelIdeal.Value.image (Cert.ReferenceIdeal.Value.table_eq _ _ _ _ _ _ _)

/-- The reference's run: its result is the last of its stages on its arguments, which end unchanged. -/
theorem reference_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v85)
        = Cert.ReferenceIdeal.Read.val_main_v85 (F := Ideal) (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4))
          (m ((c.tc : Thread Cert.ReferenceIdeal.nD Cert.ReferenceIdeal.τ).loc Cert.ReferenceIdeal.main_arg5))
          (m ((c.tc : Thread Cert.ReferenceIdeal.nD Cert.ReferenceIdeal.τ).loc Cert.ReferenceIdeal.main_arg6))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)) :=
  (θ_run Cert.ReferenceIdeal.defs _ _).mono
    (fun _ h c => ⟨(h c).1.trans (Cert.ReferenceIdeal.Read.val_main_v85_eq (StableHlo.launchContents m c)), (h c).2⟩)
    (Cert.ReferenceIdeal.Value.run (F := Ideal) m ρ)

/-- Under the precondition the kernel and the reference end with the same result. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hpre hagree
  have : Cert.Pre_finite.Facts := Cert.Pre_finite.facts
  refine ⟨fun c => Cert.KernelIdeal.Value.image (Cert.KernelIdeal.Value.result m c),
    Cert.KernelIdeal.Value.run m g (Cert.KernelIdeal.Value.finite m hpre),
    (θ_run Cert.ReferenceIdeal.defs _ _).mono (fun r h c => ⟨(h c).1.trans ?_, (h c).2⟩) (reference_run m' g')⟩
  obtain ⟨h0, h1, h2, h3, h4, h5, h6⟩ := hagree c
  rw [h0, h1, h2, h3, h4, h5, h6]
  exact value_eq m c

theorem claim : Cert.Claim :=
  ⟨Cert.Kernel.Gen.facts, Cert.KernelIdeal.Gen.facts, Cert.ReferenceIdeal.Gen.facts, Cert.Pre_finite.facts,
    fun m ρ _ => Cert.Kernel.Gen.frame m ρ, fun m ρ _ => Cert.KernelIdeal.Gen.frame m ρ,
    fun m ρ _ => Cert.KernelIdeal.Gen.frame m ρ, reference_frame, fun m ρ _ => reference_frame m ρ trivial,
    trivial, algebraic⟩

end Cert.Proof

end
